-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v368) = v0 c
          ∧ r.2.mem ((c.tc : Thread Cert.ReferenceIdeal.nD Cert.ReferenceIdeal.τ).loc Cert.ReferenceIdeal.main_v383) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x1024 : Shape := ⟨3, ![16, 4096, 1024]⟩
abbrev S1x1024 : Shape := ⟨2, ![1, 1024]⟩
abbrev S1x1024x6144 : Shape := ⟨3, ![1, 1024, 6144]⟩
abbrev S1x6144 : Shape := ⟨2, ![1, 6144]⟩
abbrev S1x31x1024 : Shape := ⟨3, ![1, 31, 1024]⟩
abbrev S1x1024x1024 : Shape := ⟨3, ![1, 1024, 1024]⟩
abbrev S1x8x128x128 : Shape := ⟨4, ![1, 8, 128, 128]⟩
abbrev S1x8x128 : Shape := ⟨3, ![1, 8, 128]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S64x1024 : Shape := ⟨2, ![64, 1024]⟩
abbrev S1024x32 : Shape := ⟨2, ![1024, 32]⟩
abbrev S32x1024 : Shape := ⟨2, ![32, 1024]⟩
abbrev S1 : Shape := ⟨1, ![1]⟩
abbrev S1024x4 : Shape := ⟨2, ![1024, 4]⟩
abbrev S4x1024 : Shape := ⟨2, ![4, 1024]⟩
abbrev S64x1 : Shape := ⟨2, ![64, 1]⟩
abbrev S32 : Shape := ⟨1, ![32]⟩
abbrev S2 : Shape := ⟨1, ![2]⟩
abbrev S4 : Shape := ⟨1, ![4]⟩
abbrev S1024 : Shape := ⟨1, ![1024]⟩
abbrev S1024x6144 : Shape := ⟨2, ![1024, 6144]⟩
abbrev S6144 : Shape := ⟨1, ![6144]⟩
abbrev S31x1024 : Shape := ⟨2, ![31, 1024]⟩
abbrev S1024x1024 : Shape := ⟨2, ![1024, 1024]⟩
abbrev S8x128x128 : Shape := ⟨3, ![8, 128, 128]⟩
abbrev S8x128 : Shape := ⟨2, ![8, 128]⟩
abbrev S128x8 : Shape := ⟨2, ![128, 8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x8x512 : Shape := ⟨3, ![128, 8, 512]⟩
abbrev S128x32x128 : Shape := ⟨3, ![128, 32, 128]⟩
abbrev S1x512x1024 : Shape := ⟨3, ![1, 512, 1024]⟩
abbrev S1x8x512 : Shape := ⟨3, ![1, 8, 512]⟩
abbrev S1x32x128 : Shape := ⟨3, ![1, 32, 128]⟩
abbrev S512x1024 : Shape := ⟨2, ![512, 1024]⟩
abbrev S512x2048 : Shape := ⟨2, ![512, 2048]⟩
abbrev S8x544x128 : Shape := ⟨3, ![8, 544, 128]⟩
abbrev S8x32x128 : Shape := ⟨3, ![8, 32, 128]⟩
abbrev S1024x512 : Shape := ⟨2, ![1024, 512]⟩
abbrev S512x128 : Shape := ⟨2, ![512, 128]⟩
abbrev S1x512x128 : Shape := ⟨3, ![1, 512, 128]⟩
abbrev S1x128 : Shape := ⟨2, ![1, 128]⟩
abbrev S128x128 : Shape := ⟨2, ![128, 128]⟩
abbrev S1x128x128 : Shape := ⟨3, ![1, 128, 128]⟩
abbrev S128x1 : Shape := ⟨2, ![128, 1]⟩
abbrev S64x512 : Shape := ⟨2, ![64, 512]⟩
abbrev S8x512 : Shape := ⟨2, ![8, 512]⟩
abbrev S32x512 : Shape := ⟨2, ![32, 512]⟩
abbrev S32x1 : Shape := ⟨2, ![32, 1]⟩
abbrev S32x32 : Shape := ⟨2, ![32, 32]⟩
abbrev S32x128 : Shape := ⟨2, ![32, 128]⟩
abbrev S2x512 : Shape := ⟨2, ![2, 512]⟩

abbrev nBuf : Space → Nat
  | .hbm => 98
  | .vmem => 41
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x6144, .f32⟩
  | .hbm, ⟨3, _⟩ => ⟨S1x6144, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x8x128x128, .f32⟩
  | .hbm, ⟨13, _⟩ => ⟨S1x8x128, .f32⟩
  | .hbm, ⟨14, _⟩ => ⟨S1x1024x1024, .f32⟩
  | .hbm, ⟨15, _⟩ => ⟨S1x1024, .f32⟩
  | .hbm, ⟨16, _⟩ => ⟨S1x1024x1024, .f32⟩
  | .hbm, ⟨17, _⟩ => ⟨S1x1024, .f32⟩
  | .hbm, ⟨18, _⟩ => ⟨S1x1024, .f32⟩
  | .hbm, ⟨19, _⟩ => ⟨S1x1024x4, .f32⟩
  | .hbm, ⟨20, _⟩ => ⟨S1x4, .f32⟩
  | .hbm, ⟨21, _⟩ => ⟨S1x1024x32, .f32⟩
  | .hbm, ⟨22, _⟩ => ⟨S1x32, .f32⟩
  | .hbm, ⟨23, _⟩ => ⟨S_, .f32⟩
  | .hbm, ⟨24, _⟩ => ⟨S64x1024, .f32⟩
  | .hbm, ⟨25, _⟩ => ⟨S1024x32, .f32⟩
  | .hbm, ⟨26, _⟩ => ⟨S32x1024, .f32⟩
  | .hbm, ⟨27, _⟩ => ⟨S_, .i32⟩
  | .hbm, ⟨28, _⟩ => ⟨S1, .i32⟩
  | .hbm, ⟨29, _⟩ => ⟨S64x1024, .f32⟩
  | .hbm, ⟨30, _⟩ => ⟨S1024x4, .f32⟩
  | .hbm, ⟨31, _⟩ => ⟨S4x1024, .f32⟩
  | .hbm, ⟨32, _⟩ => ⟨S_, .i32⟩
  | .hbm, ⟨33, _⟩ => ⟨S1, .i32⟩
  | .hbm, ⟨34, _⟩ => ⟨S64x1024, .f32⟩
  | .hbm, ⟨35, _⟩ => ⟨S_, .f32⟩
  | .hbm, ⟨36, _⟩ => ⟨S64x1, .f32⟩
  | .hbm, ⟨37, _⟩ => ⟨S32, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S64x1, .f32⟩
  | .hbm, ⟨44, _⟩ => ⟨S4, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S64x1, .f32⟩
  | .hbm, ⟨51, _⟩ => ⟨S1024, .f32⟩
  | .hbm, ⟨52, _⟩ => ⟨S1x1024, .f32⟩
  | .hbm, ⟨53, _⟩ => ⟨S1024x6144, .f32⟩
  | .hbm, ⟨54, _⟩ => ⟨S1024x6144, .bf16⟩
  | .hbm, ⟨55, _⟩ => ⟨S6144, .f32⟩
  | .hbm, ⟨56, _⟩ => ⟨S1x6144, .f32⟩
  | .hbm, ⟨57, _⟩ => ⟨S31x1024, .f32⟩
  | .hbm, ⟨58, _⟩ => ⟨S1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S1024x1024, .f32⟩
  | .hbm, ⟨65, _⟩ => ⟨S1024x1024, .bf16⟩
  | .hbm, ⟨66, _⟩ => ⟨S1024, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S8x128x128, .f32⟩
  | .hbm, ⟨73, _⟩ => ⟨S8x128, .f32⟩
  | .hbm, ⟨74, _⟩ => ⟨S128x8, .f32⟩
  | .hbm, ⟨75, _⟩ => ⟨S1024x1024, .f32⟩
  | .hbm, ⟨76, _⟩ => ⟨S1024x1024, .bf16⟩
  | .hbm, ⟨77, _⟩ => ⟨S1024, .f32⟩
  | .hbm, ⟨78, _⟩ => ⟨S1x1024, .f32⟩
  | .hbm, ⟨79, _⟩ => ⟨S1024x1024, .f32⟩
  | .hbm, ⟨80, _⟩ => ⟨S1024x1024, .bf16⟩
  | .hbm, ⟨81, _⟩ => ⟨S1024, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S64x1024, .bf16⟩
  | .hbm, ⟨86, _⟩ => ⟨S512, .i32⟩
  | .hbm, ⟨87, _⟩ => ⟨S512x1, .i32⟩
  | .hbm, ⟨88, _⟩ => ⟨S512, .i32⟩
  | .hbm, ⟨89, _⟩ => ⟨S1x512, .i32⟩
  | .hbm, ⟨90, _⟩ => ⟨S512x512, .i32⟩
  | .hbm, ⟨91, _⟩ => ⟨S512x512, .i32⟩
  | .hbm, ⟨92, _⟩ => ⟨S512x512, .i1⟩
  | .hbm, ⟨93, _⟩ => ⟨S512x512, .bf16⟩
  | .hbm, ⟨94, _⟩ => ⟨S16x4096x1024, .f32⟩
  | .hbm, ⟨95, _⟩ => ⟨S16x4096x1024, .bf16⟩
  | .hbm, ⟨96, _⟩ => ⟨S128x8x512, .f32⟩
  | .hbm, ⟨97, _⟩ => ⟨S128x32x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x6144, .bf16⟩
  | .local _ .vmem, ⟨4, _⟩ => ⟨S1x6144, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S8x128x128, .f32⟩
  | .local _ .vmem, ⟨14, _⟩ => ⟨S128x8, .f32⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S64x1024, .bf16⟩
  | .local _ .vmem, ⟨21, _⟩ => ⟨S64x1, .f32⟩
  | .local _ .vmem, ⟨22, _⟩ => ⟨S512x512, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S1x8x512, .f32⟩
  | .local _ .vmem, ⟨28, _⟩ => ⟨S1x8x512, .f32⟩
  | .local _ .vmem, ⟨29, _⟩ => ⟨S1x32x128, .f32⟩
  | .local _ .vmem, ⟨30, _⟩ => ⟨S1x32x128, .f32⟩
  | .local _ .vmem, ⟨31, _⟩ => ⟨S512x1024, .bf16⟩
  | .local _ .vmem, ⟨32, _⟩ => ⟨S512x2048, .f32⟩
  | .local _ .vmem, ⟨33, _⟩ => ⟨S512x2048, .f32⟩
  | .local _ .vmem, ⟨34, _⟩ => ⟨S512x2048, .f32⟩
  | .local _ .vmem, ⟨35, _⟩ => ⟨S8x544x128, .f32⟩
  | .local _ .vmem, ⟨36, _⟩ => ⟨S512x1024, .bf16⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_c_5 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63_0 : Ref sig .tc := ⟨.hbm, 94, rfl⟩
abbrev main_v63_1 : Ref sig .tc := ⟨.hbm, 95, rfl⟩
abbrev main_v63_2 : Ref sig .tc := ⟨.hbm, 96, rfl⟩
abbrev main_v63_3 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_stg23_0 : Ref sig .tc := ⟨.vmem, 25, rfl⟩
abbrev cc0_stg23_1 : Ref sig .tc := ⟨.vmem, 26, rfl⟩
abbrev cc0_stg24_0 : Ref sig .tc := ⟨.vmem, 27, rfl⟩
abbrev cc0_stg24_1 : Ref sig .tc := ⟨.vmem, 28, rfl⟩
abbrev cc0_stg25_0 : Ref sig .tc := ⟨.vmem, 29, rfl⟩
abbrev cc0_stg25_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_scratch8 : Ref sig .tc := ⟨.vmem, 39, rfl⟩
abbrev cc0_scratch9 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24
abbrev cc0_sem23_0 : DmaSem sig := 25
abbrev cc0_sem23_1 : DmaSem sig := 26
abbrev cc0_sem24_0 : DmaSem sig := 27
abbrev cc0_sem24_1 : DmaSem sig := 28
abbrev cc0_sem25_0 : DmaSem sig := 29
abbrev cc0_sem25_1 : DmaSem sig := 30

abbrev nD : Nat := 1
abbrev τ : Topo := Topo.v7x

variable {F : FTy → Type} [FloatOps F]

abbrev grid0 : Pipeline.Grid := ⟨2, ![16, 8], ![false, false]⟩

def k0_mult1 : BitVec 32 :=
  let c0_i32_3 : BitVec 32 := 0#32
  let c512_i32 : BitVec 32 := 512#32
  let v6 : BitVec 32 := Scalar.muli c0_i32_3 c512_i32
  v6
def k0_off1 : Fin 3 → Nat :=
  let c0 : Index := 0#32
  let c0_i32_3 : BitVec 32 := 0#32
  let c512_i32 : BitVec 32 := 512#32
  let v6 : BitVec 32 := Scalar.muli c0_i32_3 c512_i32
  let v7 : BitVec 32 := v6
  let v8 : Index := Scalar.indexCast v7
  let c0_4 : Index := 0#32
  ![0, v8.toNat, 0]
def k0_off2 : Fin 2 → Nat :=
  let c0_i32_3 : BitVec 32 := 0#32
  let c512_i32 : BitVec 32 := 512#32
  let v6 : BitVec 32 := Scalar.muli c0_i32_3 c512_i32
  let v7 : BitVec 32 := v6
  let v26 : Index := Scalar.indexCast v7
  let c0_9 : Index := 0#32
  ![v26.toNat, 0]
def k0_mult2 : BitVec 32 :=
  let c0_i32_35 : BitVec 32 := 0#32
  let c512_i32_36 : BitVec 32 := 512#32
  let v58 : BitVec 32 := Scalar.muli c0_i32_35 c512_i32_36
  v58
def k0_off3 : Fin 2 → Nat :=
  let c0_i32_35 : BitVec 32 := 0#32
  let c512_i32_36 : BitVec 32 := 512#32
  let v58 : BitVec 32 := Scalar.muli c0_i32_35 c512_i32_36
  let v59 : BitVec 32 := v58
  let v60 : Index := Scalar.indexCast v59
  let c0_37 : Index := 0#32
  ![v60.toNat, 0]
def k0_off4 : Fin 2 → Nat :=
  let c0_i32_35 : BitVec 32 := 0#32
  let c512_i32_36 : BitVec 32 := 512#32
  let v58 : BitVec 32 := Scalar.muli c0_i32_35 c512_i32_36
  let v59 : BitVec 32 := v58
  let v66 : Index := Scalar.indexCast v59
  let c1024_40 : Index := 1024#32
  ![v66.toNat, 1024]
def k0_mult3 : BitVec 32 :=
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  v81
def k0_off5 : Fin 3 → Nat :=
  let c0_47 : Index := 0#32
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  let v82 : BitVec 32 := v81
  let v84 : Index := Scalar.indexCast v82
  let c0_48 : Index := 0#32
  ![0, v84.toNat, 0]
def k0_off6 : Fin 3 → Nat :=
  let c1 : Index := 1#32
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  let v82 : BitVec 32 := v81
  let v89 : Index := Scalar.indexCast v82
  let c0_49 : Index := 0#32
  ![1, v89.toNat, 0]
def k0_off7 : Fin 3 → Nat :=
  let c2 : Index := 2#32
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  let v82 : BitVec 32 := v81
  let v94 : Index := Scalar.indexCast v82
  let c0_50 : Index := 0#32
  ![2, v94.toNat, 0]
def k0_off8 : Fin 3 → Nat :=
  let c3 : Index := 3#32
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  let v82 : BitVec 32 := v81
  let v99 : Index := Scalar.indexCast v82
  let c0_51 : Index := 0#32
  ![3, v99.toNat, 0]
def k0_off9 : Fin 3 → Nat :=
  let c4 : Index := 4#32
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  let v82 : BitVec 32 := v81
  let v104 : Index := Scalar.indexCast v82
  let c0_52 : Index := 0#32
  ![4, v104.toNat, 0]
def k0_off10 : Fin 3 → Nat :=
  let c5 : Index := 5#32
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  let v82 : BitVec 32 := v81
  let v109 : Index := Scalar.indexCast v82
  let c0_53 : Index := 0#32
  ![5, v109.toNat, 0]
def k0_off11 : Fin 3 → Nat :=
  let c6 : Index := 6#32
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  let v82 : BitVec 32 := v81
  let v114 : Index := Scalar.indexCast v82
  let c0_54 : Index := 0#32
  ![6, v114.toNat, 0]
def k0_off12 : Fin 3 → Nat :=
  let c7 : Index := 7#32
  let c0_i32_35 : BitVec 32 := 0#32
  let c512_i32_46 : BitVec 32 := 512#32
  let v80 : BitVec 32 := Scalar.muli c0_i32_35 c512_i32_46
  let c32_i32 : BitVec 32 := 32#32
  let v81 : BitVec 32 := Scalar.addi v80 c32_i32
  let v82 : BitVec 32 := v81
  let v119 : Index := Scalar.indexCast v82
  let c0_55 : Index := 0#32
  ![7, v119.toNat, 0]
def k0_mult4 : BitVec 32 :=
  let c0_i32_5069 : BitVec 32 := 0#32
  let c512_i32_5070 : BitVec 32 := 512#32
  let v7347 : BitVec 32 := Scalar.muli c0_i32_5069 c512_i32_5070
  v7347
def k0_mult5 : BitVec 32 :=
  let c0_i32_5100 : BitVec 32 := 0#32
  let c512_i32_5101 : BitVec 32 := 512#32
  let v7402 : BitVec 32 := Scalar.muli c0_i32_5100 c512_i32_5101
  v7402
def k0_mult6 : BitVec 32 :=
  let c0_i32_5110 : BitVec 32 := 0#32
  let c512_i32_5111 : BitVec 32 := 512#32
  let v7422 : BitVec 32 := Scalar.muli c0_i32_5110 c512_i32_5111
  v7422
def k0_mult7 : BitVec 32 :=
  let c0_i32_5476 : BitVec 32 := 0#32
  let c512_i32_5477 : BitVec 32 := 512#32
  let v7956 : BitVec 32 := Scalar.muli c0_i32_5476 c512_i32_5477
  v7956
def k0_mult8 : BitVec 32 :=
  let c0_i32_5512 : BitVec 32 := 0#32
  let c512_i32_5513 : BitVec 32 := 512#32
  let v8018 : BitVec 32 := Scalar.muli c0_i32_5512 c512_i32_5513
  v8018
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S64x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S64x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S512x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x8x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x32x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== ReferenceIdeal.lean ====
abbrev S16x4096x1024 : Shape := ⟨3, ![16, 4096, 1024]⟩
abbrev S1x1024 : Shape := ⟨2, ![1, 1024]⟩
abbrev S1x1024x6144 : Shape := ⟨3, ![1, 1024, 6144]⟩
abbrev S1x6144 : Shape := ⟨2, ![1, 6144]⟩
abbrev S1x31x1024 : Shape := ⟨3, ![1, 31, 1024]⟩
abbrev S1x1024x1024 : Shape := ⟨3, ![1, 1024, 1024]⟩
abbrev S1x8x128x128 : Shape := ⟨4, ![1, 8, 128, 128]⟩
abbrev S1x8x128 : Shape := ⟨3, ![1, 8, 128]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x6144 : Shape := ⟨2, ![1024, 6144]⟩
abbrev S16x4096x6144 : Shape := ⟨3, ![16, 4096, 6144]⟩
abbrev S6144 : Shape := ⟨1, ![6144]⟩
abbrev S1x1x6144 : Shape := ⟨3, ![1, 1, 6144]⟩
abbrev S16x4096x2048 : Shape := ⟨3, ![16, 4096, 2048]⟩
abbrev S31x1024 : Shape := ⟨2, ![31, 1024]⟩
abbrev S1024x1024 : Shape := ⟨2, ![1024, 1024]⟩
abbrev S16x4126x1024 : Shape := ⟨3, ![16, 4126, 1024]⟩
abbrev S8x128x128 : Shape := ⟨3, ![8, 128, 128]⟩
abbrev S8x128 : Shape := ⟨2, ![8, 128]⟩
abbrev S16x32x128x8x128 : Shape := ⟨5, ![16, 32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x16x32x128x128 : Shape := ⟨5, ![8, 16, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 456
  | .vmem => 0
  | .smem => 0
  | _ => 0

abbrev hbmTy0_0 (i : Nat) : BufTy := match i % 128 with
  | 0 => ⟨S16x4096x1024, .f32⟩
  | 1 => ⟨S1x1024, .f32⟩
  | 2 => ⟨S1x1024x6144, .f32⟩
  | 3 => ⟨S1x6144, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x1024, .f32⟩
  | 11 => ⟨S1x1024, .f32⟩
  | 12 => ⟨S1x8x128x128, .f32⟩
  | 13 => ⟨S1x8x128, .f32⟩
  | 14 => ⟨S1x1024x1024, .f32⟩
  | 15 => ⟨S1x1024, .f32⟩
  | 16 => ⟨S1x1024x1024, .f32⟩
  | 17 => ⟨S1x1024, .f32⟩
  | 18 => ⟨S1x1024, .f32⟩
  | 19 => ⟨S1x1024x4, .f32⟩
  | 20 => ⟨S1x4, .f32⟩
  | 21 => ⟨S1x1024x32, .f32⟩
  | 22 => ⟨S1x32, .f32⟩
  | 23 => ⟨S1024, .f32⟩
  | 24 => ⟨S16x4096x1024, .f32⟩
  | 25 => ⟨S_, .f32⟩
  | 26 => ⟨S16x4096, .f32⟩
  | 27 => ⟨S16x4096x1, .f32⟩
  | 28 => ⟨S_, .f32⟩
  | 29 => ⟨S16x4096x1, .f32⟩
  | 30 => ⟨S16x4096x1, .f32⟩
  | 31 => ⟨S_, .f32⟩
  | 32 => ⟨S16x4096x1, .f32⟩
  | 33 => ⟨S16x4096x1, .f32⟩
  | 34 => ⟨S16x4096x1, .f32⟩
  | 35 => ⟨S16x4096x1024, .f32⟩
  | 36 => ⟨S16x4096x1024, .f32⟩
  | 37 => ⟨S1x1x1024, .f32⟩
  | 38 => ⟨S16x4096x1024, .f32⟩
  | 39 => ⟨S16x4096x1024, .f32⟩
  | 40 => ⟨S1024x6144, .f32⟩
  | 41 => ⟨S16x4096x6144, .f32⟩
  | 42 => ⟨S6144, .f32⟩
  | 43 => ⟨S1x1x6144, .f32⟩
  | 44 => ⟨S16x4096x6144, .f32⟩
  | 45 => ⟨S16x4096x6144, .f32⟩
  | 46 => ⟨S16x4096x2048, .f32⟩
  | 47 => ⟨S16x4096x2048, .f32⟩
  | 48 => ⟨S16x4096x2048, .f32⟩
  | 49 => ⟨S31x1024, .f32⟩
  | 50 => ⟨S1024, .f32⟩
  | 51 => ⟨S1024, .f32⟩
  | 52 => ⟨S1024, .f32⟩
  | 53 => ⟨S1024x1024, .f32⟩
  | 54 => ⟨S1024, .f32⟩
  | 55 => ⟨S16x4096x1024, .f32⟩
  | 56 => ⟨S16x4096x1024, .f32⟩
  | 57 => ⟨S16x4096x1024, .f32⟩
  | 58 => ⟨S16x4096x1024, .f32⟩
  | 59 => ⟨S_, .f32⟩
  | 60 => ⟨S16x4096x1024, .f32⟩
  | 61 => ⟨S16x4096x1024, .f32⟩
  | 62 => ⟨S_, .f32⟩
  | 63 => ⟨S16x4096x1024, .f32⟩
  | 64 => ⟨S16x4096x1024, .f32⟩
  | 65 => ⟨S16x4096x1024, .f32⟩
  | 66 => ⟨S_, .i32⟩
  | 67 => ⟨S_, .f32⟩
  | 68 => ⟨S16x4126x1024, .f32⟩
  | 69 => ⟨S16x4096x1024, .f32⟩
  | 70 => ⟨S1x1024, .f32⟩
  | 71 => ⟨S1024, .f32⟩
  | 72 => ⟨S1x1x1024, .f32⟩
  | 73 => ⟨S16x4096x1024, .f32⟩
  | 74 => ⟨S16x4096x1024, .f32⟩
  | 75 => ⟨S16x4096x1024, .f32⟩
  | 76 => ⟨S1x1024, .f32⟩
  | 77 => ⟨S1024, .f32⟩
  | 78 => ⟨S1x1x1024, .f32⟩
  | 79 => ⟨S16x4096x1024, .f32⟩
  | 80 => ⟨S16x4096x1024, .f32⟩
  | 81 => ⟨S16x4096x1024, .f32⟩
  | 82 => ⟨S16x4096x1024, .f32⟩
  | 83 => ⟨S1x1024, .f32⟩
  | 84 => ⟨S1024, .f32⟩
  | 85 => ⟨S1x1x1024, .f32⟩
  | 86 => ⟨S16x4096x1024, .f32⟩
  | 87 => ⟨S16x4096x1024, .f32⟩
  | 88 => ⟨S16x4096x1024, .f32⟩
  | 89 => ⟨S16x4096x1024, .f32⟩
  | 90 => ⟨S1x1024, .f32⟩
  | 91 => ⟨S1024, .f32⟩
  | 92 => ⟨S1x1x1024, .f32⟩
  | 93 => ⟨S16x4096x1024, .f32⟩
  | 94 => ⟨S16x4096x1024, .f32⟩
  | 95 => ⟨S16x4096x1024, .f32⟩
  | 96 => ⟨S16x4096x1024, .f32⟩
  | 97 => ⟨S1x1024, .f32⟩
  | 98 => ⟨S1024, .f32⟩
  | 99 => ⟨S1x1x1024, .f32⟩
  | 100 => ⟨S16x4096x1024, .f32⟩
  | 101 => ⟨S16x4096x1024, .f32⟩
  | 102 => ⟨S16x4096x1024, .f32⟩
  | 103 => ⟨S16x4096x1024, .f32⟩
  | 104 => ⟨S1x1024, .f32⟩
  | 105 => ⟨S1024, .f32⟩
  | 106 => ⟨S1x1x1024, .f32⟩
  | 107 => ⟨S16x4096x1024, .f32⟩
  | 108 => ⟨S16x4096x1024, .f32⟩
  | 109 => ⟨S16x4096x1024, .f32⟩
  | 110 => ⟨S16x4096x1024, .f32⟩
  | 111 => ⟨S1x1024, .f32⟩
  | 112 => ⟨S1024, .f32⟩
  | 113 => ⟨S1x1x1024, .f32⟩
  | 114 => ⟨S16x4096x1024, .f32⟩
  | 115 => ⟨S16x4096x1024, .f32⟩
  | 116 => ⟨S16x4096x1024, .f32⟩
  | 117 => ⟨S16x4096x1024, .f32⟩
  | 118 => ⟨S1x1024, .f32⟩
  | 119 => ⟨S1024, .f32⟩
  | 120 => ⟨S1x1x1024, .f32⟩
  | 121 => ⟨S16x4096x1024, .f32⟩
  | 122 => ⟨S16x4096x1024, .f32⟩
  | 123 => ⟨S16x4096x1024, .f32⟩
  | 124 => ⟨S16x4096x1024, .f32⟩
  | 125 => ⟨S1x1024, .f32⟩
  | 126 => ⟨S1024, .f32⟩
  | 127 => ⟨S1x1x1024, .f32⟩
  | _ => ⟨S16x4096x1024, .f32⟩

abbrev hbmTy0_1 (i : Nat) : BufTy := match i % 128 with
  | 0 => ⟨S16x4096x1024, .f32⟩
  | 1 => ⟨S16x4096x1024, .f32⟩
  | 2 => ⟨S16x4096x1024, .f32⟩
  | 3 => ⟨S16x4096x1024, .f32⟩
  | 4 => ⟨S1x1024, .f32⟩
  | 5 => ⟨S1024, .f32⟩
  | 6 => ⟨S1x1x1024, .f32⟩
  | 7 => ⟨S16x4096x1024, .f32⟩
  | 8 => ⟨S16x4096x1024, .f32⟩
  | 9 => ⟨S16x4096x1024, .f32⟩
  | 10 => ⟨S16x4096x1024, .f32⟩
  | 11 => ⟨S1x1024, .f32⟩
  | 12 => ⟨S1024, .f32⟩
  | 13 => ⟨S1x1x1024, .f32⟩
  | 14 => ⟨S16x4096x1024, .f32⟩
  | 15 => ⟨S16x4096x1024, .f32⟩
  | 16 => ⟨S16x4096x1024, .f32⟩
  | 17 => ⟨S16x4096x1024, .f32⟩
  | 18 => ⟨S1x1024, .f32⟩
  | 19 => ⟨S1024, .f32⟩
  | 20 => ⟨S1x1x1024, .f32⟩
  | 21 => ⟨S16x4096x1024, .f32⟩
  | 22 => ⟨S16x4096x1024, .f32⟩
  | 23 => ⟨S16x4096x1024, .f32⟩
  | 24 => ⟨S16x4096x1024, .f32⟩
  | 25 => ⟨S1x1024, .f32⟩
  | 26 => ⟨S1024, .f32⟩
  | 27 => ⟨S1x1x1024, .f32⟩
  | 28 => ⟨S16x4096x1024, .f32⟩
  | 29 => ⟨S16x4096x1024, .f32⟩
  | 30 => ⟨S16x4096x1024, .f32⟩
  | 31 => ⟨S16x4096x1024, .f32⟩
  | 32 => ⟨S1x1024, .f32⟩
  | 33 => ⟨S1024, .f32⟩
  | 34 => ⟨S1x1x1024, .f32⟩
  | 35 => ⟨S16x4096x1024, .f32⟩
  | 36 => ⟨S16x4096x1024, .f32⟩
  | 37 => ⟨S16x4096x1024, .f32⟩
  | 38 => ⟨S16x4096x1024, .f32⟩
  | 39 => ⟨S1x1024, .f32⟩
  | 40 => ⟨S1024, .f32⟩
  | 41 => ⟨S1x1x1024, .f32⟩
  | 42 => ⟨S16x4096x1024, .f32⟩
  | 43 => ⟨S16x4096x1024, .f32⟩
  | 44 => ⟨S16x4096x1024, .f32⟩
  | 45 => ⟨S16x4096x1024, .f32⟩
  | 46 => ⟨S1x1024, .f32⟩
  | 47 => ⟨S1024, .f32⟩
  | 48 => ⟨S1x1x1024, .f32⟩
  | 49 => ⟨S16x4096x1024, .f32⟩
  | 50 => ⟨S16x4096x1024, .f32⟩
  | 51 => ⟨S16x4096x1024, .f32⟩
  | 52 => ⟨S16x4096x1024, .f32⟩
  | 53 => ⟨S1x1024, .f32⟩
  | 54 => ⟨S1024, .f32⟩
  | 55 => ⟨S1x1x1024, .f32⟩
  | 56 => ⟨S16x4096x1024, .f32⟩
  | 57 => ⟨S16x4096x1024, .f32⟩
  | 58 => ⟨S16x4096x1024, .f32⟩
  | 59 => ⟨S16x4096x1024, .f32⟩
  | 60 => ⟨S1x1024, .f32⟩
  | 61 => ⟨S1024, .f32⟩
  | 62 => ⟨S1x1x1024, .f32⟩
  | 63 => ⟨S16x4096x1024, .f32⟩
  | 64 => ⟨S16x4096x1024, .f32⟩
  | 65 => ⟨S16x4096x1024, .f32⟩
  | 66 => ⟨S16x4096x1024, .f32⟩
  | 67 => ⟨S1x1024, .f32⟩
  | 68 => ⟨S1024, .f32⟩
  | 69 => ⟨S1x1x1024, .f32⟩
  | 70 => ⟨S16x4096x1024, .f32⟩
  | 71 => ⟨S16x4096x1024, .f32⟩
  | 72 => ⟨S16x4096x1024, .f32⟩
  | 73 => ⟨S16x4096x1024, .f32⟩
  | 74 => ⟨S1x1024, .f32⟩
  | 75 => ⟨S1024, .f32⟩
  | 76 => ⟨S1x1x1024, .f32⟩
  | 77 => ⟨S16x4096x1024, .f32⟩
  | 78 => ⟨S16x4096x1024, .f32⟩
  | 79 => ⟨S16x4096x1024, .f32⟩
  | 80 => ⟨S16x4096x1024, .f32⟩
  | 81 => ⟨S1x1024, .f32⟩
  | 82 => ⟨S1024, .f32⟩
  | 83 => ⟨S1x1x1024, .f32⟩
  | 84 => ⟨S16x4096x1024, .f32⟩
  | 85 => ⟨S16x4096x1024, .f32⟩
  | 86 => ⟨S16x4096x1024, .f32⟩
  | 87 => ⟨S16x4096x1024, .f32⟩
  | 88 => ⟨S1x1024, .f32⟩
  | 89 => ⟨S1024, .f32⟩
  | 90 => ⟨S1x1x1024, .f32⟩
  | 91 => ⟨S16x4096x1024, .f32⟩
  | 92 => ⟨S16x4096x1024, .f32⟩
  | 93 => ⟨S16x4096x1024, .f32⟩
  | 94 => ⟨S16x4096x1024, .f32⟩
  | 95 => ⟨S1x1024, .f32⟩
  | 96 => ⟨S1024, .f32⟩
  | 97 => ⟨S1x1x1024, .f32⟩
  | 98 => ⟨S16x4096x1024, .f32⟩
  | 99 => ⟨S16x4096x1024, .f32⟩
  | 100 => ⟨S16x4096x1024, .f32⟩
  | 101 => ⟨S16x4096x1024, .f32⟩
  | 102 => ⟨S1x1024, .f32⟩
  | 103 => ⟨S1024, .f32⟩
  | 104 => ⟨S1x1x1024, .f32⟩
  | 105 => ⟨S16x4096x1024, .f32⟩
  | 106 => ⟨S16x4096x1024, .f32⟩
  | 107 => ⟨S16x4096x1024, .f32⟩
  | 108 => ⟨S16x4096x1024, .f32⟩
  | 109 => ⟨S1x1024, .f32⟩
  | 110 => ⟨S1024, .f32⟩
  | 111 => ⟨S1x1x1024, .f32⟩
  | 112 => ⟨S16x4096x1024, .f32⟩
  | 113 => ⟨S16x4096x1024, .f32⟩
  | 114 => ⟨S16x4096x1024, .f32⟩
  | 115 => ⟨S16x4096x1024, .f32⟩
  | 116 => ⟨S1x1024, .f32⟩
  | 117 => ⟨S1024, .f32⟩
  | 118 => ⟨S1x1x1024, .f32⟩
  | 119 => ⟨S16x4096x1024, .f32⟩
  | 120 => ⟨S16x4096x1024, .f32⟩
  | 121 => ⟨S16x4096x1024, .f32⟩
  | 122 => ⟨S16x4096x1024, .f32⟩
  | 123 => ⟨S1x1024, .f32⟩
  | 124 => ⟨S1024, .f32⟩
  | 125 => ⟨S1x1x1024, .f32⟩
  | 126 => ⟨S16x4096x1024, .f32⟩
  | 127 => ⟨S16x4096x1024, .f32⟩
  | _ => ⟨S16x4096x1024, .f32⟩

abbrev hbmTy0_2 (i : Nat) : BufTy := match i % 128 with
  | 0 => ⟨S16x4096x1024, .f32⟩
  | 1 => ⟨S16x4096x1024, .f32⟩
  | 2 => ⟨S1x1024, .f32⟩
  | 3 => ⟨S1024, .f32⟩
  | 4 => ⟨S1x1x1024, .f32⟩
  | 5 => ⟨S16x4096x1024, .f32⟩
  | 6 => ⟨S16x4096x1024, .f32⟩
  | 7 => ⟨S16x4096x1024, .f32⟩
  | 8 => ⟨S16x4096x1024, .f32⟩
  | 9 => ⟨S1x1024, .f32⟩
  | 10 => ⟨S1024, .f32⟩
  | 11 => ⟨S1x1x1024, .f32⟩
  | 12 => ⟨S16x4096x1024, .f32⟩
  | 13 => ⟨S16x4096x1024, .f32⟩
  | 14 => ⟨S16x4096x1024, .f32⟩
  | 15 => ⟨S16x4096x1024, .f32⟩
  | 16 => ⟨S1x1024, .f32⟩
  | 17 => ⟨S1024, .f32⟩
  | 18 => ⟨S1x1x1024, .f32⟩
  | 19 => ⟨S16x4096x1024, .f32⟩
  | 20 => ⟨S16x4096x1024, .f32⟩
  | 21 => ⟨S16x4096x1024, .f32⟩
  | 22 => ⟨S16x4096x1024, .f32⟩
  | 23 => ⟨S1x1024, .f32⟩
  | 24 => ⟨S1024, .f32⟩
  | 25 => ⟨S1x1x1024, .f32⟩
  | 26 => ⟨S16x4096x1024, .f32⟩
  | 27 => ⟨S16x4096x1024, .f32⟩
  | 28 => ⟨S16x4096x1024, .f32⟩
  | 29 => ⟨S1x1x1024, .f32⟩
  | 30 => ⟨S16x4096x1024, .f32⟩
  | 31 => ⟨S16x4096x1024, .f32⟩
  | 32 => ⟨S_, .f32⟩
  | 33 => ⟨S16x4096, .f32⟩
  | 34 => ⟨S16x4096x1, .f32⟩
  | 35 => ⟨S_, .f32⟩
  | 36 => ⟨S16x4096x1, .f32⟩
  | 37 => ⟨S16x4096x1, .f32⟩
  | 38 => ⟨S16x4096x1024, .f32⟩
  | 39 => ⟨S16x4096x1024, .f32⟩
  | 40 => ⟨S16x4096x1024, .f32⟩
  | 41 => ⟨S_, .f32⟩
  | 42 => ⟨S16x4096, .f32⟩
  | 43 => ⟨S16x4096x1, .f32⟩
  | 44 => ⟨S_, .f32⟩
  | 45 => ⟨S16x4096x1, .f32⟩
  | 46 => ⟨S16x4096x1, .f32⟩
  | 47 => ⟨S16x4096x1024, .f32⟩
  | 48 => ⟨S16x4096x1024, .f32⟩
  | 49 => ⟨S_, .f32⟩
  | 50 => ⟨S16x4096x1, .f32⟩
  | 51 => ⟨S16x4096x1, .f32⟩
  | 52 => ⟨S16x4096x1, .f32⟩
  | 53 => ⟨S16x4096x1024, .f32⟩
  | 54 => ⟨S16x4096x1024, .f32⟩
  | 55 => ⟨S1x1x1024, .f32⟩
  | 56 => ⟨S16x4096x1024, .f32⟩
  | 57 => ⟨S16x4096x1024, .f32⟩
  | 58 => ⟨S1x1x1024, .f32⟩
  | 59 => ⟨S16x4096x1024, .f32⟩
  | 60 => ⟨S16x4096x1024, .f32⟩
  | 61 => ⟨S16x4096x1024, .f32⟩
  | 62 => ⟨S16x4096x1024, .f32⟩
  | 63 => ⟨S_, .f32⟩
  | 64 => ⟨S16x4096x1024, .f32⟩
  | 65 => ⟨S16x4096x1024, .f32⟩
  | 66 => ⟨S_, .f32⟩
  | 67 => ⟨S16x4096x1024, .f32⟩
  | 68 => ⟨S16x4096x1024, .f32⟩
  | 69 => ⟨S16x4096x1024, .f32⟩
  | 70 => ⟨S16x4096x1024, .f32⟩
  | 71 => ⟨S1x1x1024, .f32⟩
  | 72 => ⟨S16x4096x1024, .f32⟩
  | 73 => ⟨S16x4096x1024, .f32⟩
  | 74 => ⟨S1024, .f32⟩
  | 75 => ⟨S1024, .f32⟩
  | 76 => ⟨S8x128x128, .f32⟩
  | 77 => ⟨S8x128, .f32⟩
  | 78 => ⟨S1024x1024, .f32⟩
  | 79 => ⟨S1024, .f32⟩
  | 80 => ⟨S_, .f32⟩
  | 81 => ⟨S16x4096x2048, .f32⟩
  | 82 => ⟨S16x4096x2048, .f32⟩
  | 83 => ⟨S16x4096x2048, .f32⟩
  | 84 => ⟨S_, .f32⟩
  | 85 => ⟨S16x4096x2048, .f32⟩
  | 86 => ⟨S16x4096x2048, .f32⟩
  | 87 => ⟨S16x4096x2048, .f32⟩
  | 88 => ⟨S16x4096x2048, .f32⟩
  | 89 => ⟨S16x4096x1024, .f32⟩
  | 90 => ⟨S16x4096x1024, .f32⟩
  | 91 => ⟨S_, .f32⟩
  | 92 => ⟨S16x4096, .f32⟩
  | 93 => ⟨S16x4096x1, .f32⟩
  | 94 => ⟨S_, .f32⟩
  | 95 => ⟨S16x4096x1, .f32⟩
  | 96 => ⟨S16x4096x1, .f32⟩
  | 97 => ⟨S16x4096x1024, .f32⟩
  | 98 => ⟨S16x4096x1024, .f32⟩
  | 99 => ⟨S16x4096x1024, .f32⟩
  | 100 => ⟨S_, .f32⟩
  | 101 => ⟨S16x4096, .f32⟩
  | 102 => ⟨S16x4096x1, .f32⟩
  | 103 => ⟨S_, .f32⟩
  | 104 => ⟨S16x4096x1, .f32⟩
  | 105 => ⟨S16x4096x1, .f32⟩
  | 106 => ⟨S16x4096x1024, .f32⟩
  | 107 => ⟨S16x4096x1024, .f32⟩
  | 108 => ⟨S_, .f32⟩
  | 109 => ⟨S16x4096x1, .f32⟩
  | 110 => ⟨S16x4096x1, .f32⟩
  | 111 => ⟨S16x4096x1, .f32⟩
  | 112 => ⟨S16x4096x1024, .f32⟩
  | 113 => ⟨S16x4096x1024, .f32⟩
  | 114 => ⟨S1x1x1024, .f32⟩
  | 115 => ⟨S16x4096x1024, .f32⟩
  | 116 => ⟨S16x4096x1024, .f32⟩
  | 117 => ⟨S1x1x1024, .f32⟩
  | 118 => ⟨S16x4096x1024, .f32⟩
  | 119 => ⟨S16x4096x1024, .f32⟩
  | 120 => ⟨S16x32x128x8x128, .f32⟩
  | 121 => ⟨S128, .i32⟩
  | 122 => ⟨S_, .i32⟩
  | 123 => ⟨S_, .i32⟩
  | 124 => ⟨S128, .i32⟩
  | 125 => ⟨S128, .i32⟩
  | 126 => ⟨S128, .i32⟩
  | 127 => ⟨S_, .i32⟩
  | _ => ⟨S16x4096x1024, .f32⟩

abbrev hbmTy0_3 (i : Nat) : BufTy := match i % 128 with
  | 0 => ⟨S128, .i32⟩
  | 1 => ⟨S128, .i1⟩
  | 2 => ⟨S128, .i32⟩
  | 3 => ⟨S128, .i32⟩
  | 4 => ⟨S_, .i32⟩
  | 5 => ⟨S128, .i32⟩
  | 6 => ⟨S128, .i1⟩
  | 7 => ⟨S128, .i1⟩
  | 8 => ⟨S_, .i32⟩
  | 9 => ⟨S128, .i32⟩
  | 10 => ⟨S128, .i32⟩
  | 11 => ⟨S128, .i32⟩
  | 12 => ⟨S128x1, .i32⟩
  | 13 => ⟨S1x128, .i32⟩
  | 14 => ⟨S128x128, .i32⟩
  | 15 => ⟨S128x128, .i32⟩
  | 16 => ⟨S128x128, .i1⟩
  | 17 => ⟨S1x128x128, .i1⟩
  | 18 => ⟨S1x128x128, .f32⟩
  | 19 => ⟨S8x128x128, .f32⟩
  | 20 => ⟨S8x128x128, .f32⟩
  | 21 => ⟨S8x16x32x128x128, .f32⟩
  | 22 => ⟨S16x32x128x8x128, .f32⟩
  | 23 => ⟨S128x8, .f32⟩
  | 24 => ⟨S128x8x1, .f32⟩
  | 25 => ⟨S1x1x128x8x1, .f32⟩
  | 26 => ⟨S16x32x128x8x128, .f32⟩
  | 27 => ⟨S16x32x128x8x128, .f32⟩
  | 28 => ⟨S16x4096x1024, .f32⟩
  | 29 => ⟨S16x4096x1024, .f32⟩
  | 30 => ⟨S16x4096x1024, .f32⟩
  | 31 => ⟨S1x1x1024, .f32⟩
  | 32 => ⟨S16x4096x1024, .f32⟩
  | 33 => ⟨S16x4096x1024, .f32⟩
  | 34 => ⟨S16x4096x2048, .f32⟩
  | 35 => ⟨S16x4096x2048, .f32⟩
  | 36 => ⟨S_, .f32⟩
  | 37 => ⟨S16x4096x2048, .f32⟩
  | 38 => ⟨S16x4096x2048, .f32⟩
  | 39 => ⟨S_, .f32⟩
  | 40 => ⟨S16x4096x2048, .f32⟩
  | 41 => ⟨S16x4096x2048, .f32⟩
  | 42 => ⟨S16x4096x1024, .f32⟩
  | 43 => ⟨S16x4096x1024, .f32⟩
  | 44 => ⟨S16x4096x1024, .f32⟩
  | 45 => ⟨S16x4096x1024, .f32⟩
  | 46 => ⟨S16x4096x1024, .f32⟩
  | 47 => ⟨S1024x1024, .f32⟩
  | 48 => ⟨S16x4096x1024, .f32⟩
  | 49 => ⟨S16x4096x1024, .f32⟩
  | 50 => ⟨S1024, .f32⟩
  | 51 => ⟨S1x1x1024, .f32⟩
  | 52 => ⟨S16x4096x1024, .f32⟩
  | 53 => ⟨S16x4096x1024, .f32⟩
  | 54 => ⟨S1024, .f32⟩
  | 55 => ⟨S16x4096x1024, .f32⟩
  | 56 => ⟨S_, .f32⟩
  | 57 => ⟨S16x4096, .f32⟩
  | 58 => ⟨S16x4096x1, .f32⟩
  | 59 => ⟨S_, .f32⟩
  | 60 => ⟨S16x4096x1, .f32⟩
  | 61 => ⟨S16x4096x1, .f32⟩
  | 62 => ⟨S_, .f32⟩
  | 63 => ⟨S16x4096x1, .f32⟩
  | 64 => ⟨S16x4096x1, .f32⟩
  | 65 => ⟨S16x4096x1, .f32⟩
  | 66 => ⟨S16x4096x1024, .f32⟩
  | 67 => ⟨S16x4096x1024, .f32⟩
  | 68 => ⟨S1x1x1024, .f32⟩
  | 69 => ⟨S16x4096x1024, .f32⟩
  | 70 => ⟨S16x4096x1024, .f32⟩
  | 71 => ⟨S16x4096x1024, .bf16⟩
  | _ => ⟨S16x4096x1024, .f32⟩

abbrev hbmTy (i : Nat) : BufTy := match i / 128 with
  | 0 => hbmTy0_0 i
  | 1 => hbmTy0_1 i
  | 2 => hbmTy0_2 i
  | 3 => hbmTy0_3 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_v5 : Ref sig .tc := ⟨.hbm, 30, rfl⟩
abbrev main_cst_1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c : Ref sig .tc := ⟨.hbm, 66, rfl⟩
abbrev main_call0_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_cst_4 : Ref sig .tc := ⟨.hbm, 288, rfl⟩
abbrev main_v258 : Ref sig .tc := ⟨.hbm, 289, rfl⟩
abbrev main_v259 : Ref sig .tc := ⟨.hbm, 290, rfl⟩
abbrev main_cst_5 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_cst_6 : Ref sig .tc := ⟨.hbm, 297, rfl⟩
abbrev main_v265 : Ref sig .tc := ⟨.hbm, 298, rfl⟩
abbrev main_v266 : Ref sig .tc := ⟨.hbm, 299, rfl⟩
abbrev main_cst_7 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_cst_8 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_call1_v0 : Ref sig .tc := ⟨.hbm, 317, rfl⟩
abbrev main_call1_v1 : Ref sig .tc := ⟨.hbm, 318, rfl⟩
abbrev main_call1_cst : Ref sig .tc := ⟨.hbm, 319, rfl⟩
abbrev main_call1_v2 : Ref sig .tc := ⟨.hbm, 320, rfl⟩
abbrev main_call1_v3 : Ref sig .tc := ⟨.hbm, 321, rfl⟩
abbrev main_call1_cst_0 : Ref sig .tc := ⟨.hbm, 322, rfl⟩
abbrev main_call1_v4 : Ref sig .tc := ⟨.hbm, 323, rfl⟩
abbrev main_call1_v5 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_cst_9 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_cst_10 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_cst_11 : Ref sig .tc := ⟨.hbm, 347, rfl⟩
abbrev main_v302 : Ref sig .tc := ⟨.hbm, 348, rfl⟩
abbrev main_v303 : Ref sig .tc := ⟨.hbm, 349, rfl⟩
abbrev main_cst_12 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_cst_13 : Ref sig .tc := ⟨.hbm, 356, rfl⟩
abbrev main_v309 : Ref sig .tc := ⟨.hbm, 357, rfl⟩
abbrev main_v310 : Ref sig .tc := ⟨.hbm, 358, rfl⟩
abbrev main_cst_14 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_cst_15 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_c_16 : Ref sig .tc := ⟨.hbm, 378, rfl⟩
abbrev main_call2_v0 : Ref sig .tc := ⟨.hbm, 379, rfl⟩
abbrev main_call2_v1 : Ref sig .tc := ⟨.hbm, 380, rfl⟩
abbrev main_call2_v2 : Ref sig .tc := ⟨.hbm, 381, rfl⟩
abbrev main_call2_v3 : Ref sig .tc := ⟨.hbm, 382, rfl⟩
abbrev main_call2_v4 : Ref sig .tc := ⟨.hbm, 383, rfl⟩
abbrev main_call2_v5 : Ref sig .tc := ⟨.hbm, 384, rfl⟩
abbrev main_call2_v6 : Ref sig .tc := ⟨.hbm, 385, rfl⟩
abbrev main_call2_v7 : Ref sig .tc := ⟨.hbm, 386, rfl⟩
abbrev main_call2_v8 : Ref sig .tc := ⟨.hbm, 387, rfl⟩
abbrev main_call2_c : Ref sig .tc := ⟨.hbm, 388, rfl⟩
abbrev main_call2_v9 : Ref sig .tc := ⟨.hbm, 389, rfl⟩
abbrev main_call2_v10 : Ref sig .tc := ⟨.hbm, 390, rfl⟩
abbrev main_call2_v11 : Ref sig .tc := ⟨.hbm, 391, rfl⟩
abbrev main_call2_c_0 : Ref sig .tc := ⟨.hbm, 392, rfl⟩
abbrev main_call2_v12 : Ref sig .tc := ⟨.hbm, 393, rfl⟩
abbrev main_call2_v13 : Ref sig .tc := ⟨.hbm, 394, rfl⟩
abbrev main_v328 : Ref sig .tc := ⟨.hbm, 395, rfl⟩
abbrev main_v329 : Ref sig .tc := ⟨.hbm, 396, rfl⟩
abbrev main_v330 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_v334 : Ref sig .tc := ⟨.hbm, 401, rfl⟩
abbrev main_v335 : Ref sig .tc := ⟨.hbm, 402, rfl⟩
abbrev main_v336 : Ref sig .tc := ⟨.hbm, 403, rfl⟩
abbrev main_v337 : Ref sig .tc := ⟨.hbm, 404, rfl⟩
abbrev main_v338 : Ref sig .tc := ⟨.hbm, 405, rfl⟩
abbrev main_v339 : Ref sig .tc := ⟨.hbm, 406, rfl⟩
abbrev main_v340 : Ref sig .tc := ⟨.hbm, 407, rfl⟩
abbrev main_v341 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_cst_17 : Ref sig .tc := ⟨.hbm, 420, rfl⟩
abbrev main_v353 : Ref sig .tc := ⟨.hbm, 421, rfl⟩
abbrev main_v354 : Ref sig .tc := ⟨.hbm, 422, rfl⟩
abbrev main_cst_18 : Ref sig .tc := ⟨.hbm, 423, rfl⟩
abbrev main_v355 : Ref sig .tc := ⟨.hbm, 424, rfl⟩
abbrev main_v356 : Ref sig .tc := ⟨.hbm, 425, rfl⟩
abbrev main_v357 : Ref sig .tc := ⟨.hbm, 426, rfl⟩
abbrev main_v358 : Ref sig .tc := ⟨.hbm, 427, rfl⟩
abbrev main_v359 : Ref sig .tc := ⟨.hbm, 428, rfl⟩
abbrev main_v360 : Ref sig .tc := ⟨.hbm, 429, rfl⟩
abbrev main_v361 : Ref sig .tc := ⟨.hbm, 430, rfl⟩
abbrev main_v362 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_v367 : Ref sig .tc := ⟨.hbm, 436, rfl⟩
abbrev main_v368 : Ref sig .tc := ⟨.hbm, 437, rfl⟩
abbrev main_v369 : Ref sig .tc := ⟨.hbm, 438, rfl⟩
abbrev main_v370 : Ref sig .tc := ⟨.hbm, 439, rfl⟩
abbrev main_cst_19 : Ref sig .tc := ⟨.hbm, 440, rfl⟩
abbrev main_v371 : Ref sig .tc := ⟨.hbm, 441, rfl⟩
abbrev main_v372 : Ref sig .tc := ⟨.hbm, 442, rfl⟩
abbrev main_cst_20 : Ref sig .tc := ⟨.hbm, 443, rfl⟩
abbrev main_v373 : Ref sig .tc := ⟨.hbm, 444, rfl⟩
abbrev main_v374 : Ref sig .tc := ⟨.hbm, 445, rfl⟩
abbrev main_cst_21 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_v378 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩

abbrev nD : Nat := 1
abbrev τ : Topo := Topo.v7x

variable {F : FTy → Type} [FloatOps F]
-- ==== Proof.Mix.Cover.lean ====
/- The stores of the mixing call's body cover the result blocks and the gated rows. -/
module

public import proofs.«01_k».proof.Proof.Gen.KernelIdeal.Frame.RunA
public import proofs.«01_k».proof.Proof.Gen.KernelIdeal.Frame.RunB

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x6144 .bf16) (harg4 : arg4.IsWhole)
  (arg5 : Memref sig .tc .vmem S1x6144 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S128x8 .f32) (harg15 : arg15.IsWhole)
  (arg16 : Memref sig .tc .vmem S1024x1024 .bf16) (harg16 : arg16.IsWhole)
  (arg17 : Memref sig .tc .vmem S1x1024 .f32) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S64x1024 .bf16) (harg21 : arg21.IsWhole)
  (arg22 : Memref sig .tc .vmem S64x1 .f32) (harg22 : arg22.IsWhole)
  (arg23 : Memref sig .tc .vmem S512x512 .bf16) (harg23 : arg23.IsWhole)
  (arg24 : Memref sig .tc .vmem S1x512x1024 .f32) (harg24 : arg24.IsWhole)
  (arg25 : Memref sig .tc .vmem S1x512x1024 .bf16) (harg25 : arg25.IsWhole)
  (arg26 : Memref sig .tc .vmem S1x8x512 .f32) (harg26 : arg26.IsWhole)
  (arg27 : Memref sig .tc .vmem S1x32x128 .f32) (harg27 : arg27.IsWhole)
  (arg28 : Memref sig .tc .vmem S512x1024 .bf16) (harg28 : arg28.IsWhole)
  (arg29 : Memref sig .tc .vmem S512x2048 .f32) (harg29 : arg29.IsWhole)
  (arg30 : Memref sig .tc .vmem S512x2048 .f32) (harg30 : arg30.IsWhole)
  (arg31 : Memref sig .tc .vmem S512x2048 .f32) (harg31 : arg31.IsWhole)
  (arg32 : Memref sig .tc .vmem S8x544x128 .f32) (harg32 : arg32.IsWhole)
  (arg33 : Memref sig .tc .vmem S512x1024 .bf16) (harg33 : arg33.IsWhole)
  (arg34 : Memref sig .tc .vmem S512x1024 .f32) (harg34 : arg34.IsWhole)
  (arg35 : Memref sig .tc .vmem S512x1024 .f32) (harg35 : arg35.IsWhole)
  (arg36 : Memref sig .tc .vmem S512x1024 .f32) (harg36 : arg36.IsWhole)
  (arg37 : Memref sig .tc .vmem S512x1024 .bf16) (harg37 : arg37.IsWhole)

/-- The stores of case A cover the block of result 0. -/
theorem coverA22 (hc0 : cond0_0 i) (hc1 : ¬cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16)
    (y : S1x512x1024.Idx) :
    ∃ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).1, y ∈ p.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).1 S1x512x1024.size (by sl_kernel_rfl) y

/-- The stores of case A cover the block of result 1. -/
theorem coverA23 (hc0 : cond0_0 i) (hc1 : ¬cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16)
    (y : S1x512x1024.Idx) :
    ∃ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).2.1, y ∈ p.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).2.1 S1x512x1024.size (by sl_kernel_rfl) y

/-- The stores of case A cover the block of result 2. -/
theorem coverA24 (hc0 : cond0_0 i) (hc1 : ¬cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16)
    (y : S1x8x512.Idx) :
    ∃ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).2.2.1, y ∈ p.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).2.2.1 S1x8x512.size (by sl_kernel_rfl) y

/-- The stores of case A cover the block of result 3. -/
theorem coverA25 (hc0 : cond0_0 i) (hc1 : ¬cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16)
    (y : S1x32x128.Idx) :
    ∃ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).2.2.2.1, y ∈ p.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).2.2.2.1 S1x32x128.size (by sl_kernel_rfl) y

/-- The stores of case A cover the gated rows. -/
theorem coverAS (hc0 : cond0_0 i) (hc1 : ¬cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16)
    (y : S8x544x128.Idx) :
    ∃ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).2.2.2.2.1, y ∈ p.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21).2.2.2.2.1 ![1, 32, 128] (by sl_kernel_rfl) y

/-- The stores of case B cover the block of result 0. -/
theorem coverB22 (hc0 : ¬cond0_0 i) (hc1 : cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16) (xs4 : Vec F S8x544x128 .f32)
    (y : S1x512x1024.Idx) :
    ∃ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).1, y ∈ p.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).1 S1x512x1024.size (by sl_kernel_rfl) y

/-- The stores of case B cover the block of result 1. -/
theorem coverB23 (hc0 : ¬cond0_0 i) (hc1 : cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16) (xs4 : Vec F S8x544x128 .f32)
    (y : S1x512x1024.Idx) :
    ∃ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).2.1, y ∈ p.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).2.1 S1x512x1024.size (by sl_kernel_rfl) y

/-- The stores of case B cover the block of result 2. -/
theorem coverB24 (hc0 : ¬cond0_0 i) (hc1 : cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16) (xs4 : Vec F S8x544x128 .f32)
    (y : S1x8x512.Idx) :
    ∃ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).2.2.1, y ∈ p.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).2.2.1 S1x8x512.size (by sl_kernel_rfl) y

/-- The stores of case B cover the block of result 3. -/
theorem coverB25 (hc0 : ¬cond0_0 i) (hc1 : cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16) (xs4 : Vec F S8x544x128 .f32)
    (y : S1x32x128.Idx) :
    ∃ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).2.2.2.1, y ∈ p.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).2.2.2.1 S1x32x128.size (by sl_kernel_rfl) y

/-- The stores of case B cover the gated rows. -/
theorem coverBS (hc0 : ¬cond0_0 i) (hc1 : cond0_1 i)
    (x0 : Vec F S1x512x1024 .f32) (x1 : Vec F S1x1024 .f32) (x2 : Vec F S1024x6144 .bf16) (x3 : Vec F S1x6144 .f32) (x4 : Vec F S31x1024 .f32) (x5 : Vec F S1x1024 .f32) (x6 : Vec F S1x1024 .f32) (x7 : Vec F S1x1024 .f32) (x8 : Vec F S1024x1024 .bf16) (x9 : Vec F S1x1024 .f32) (x10 : Vec F S1x1024 .f32) (x11 : Vec F S1x1024 .f32) (x12 : Vec F S8x128x128 .f32) (x13 : Vec F S128x8 .f32) (x14 : Vec F S1024x1024 .bf16) (x15 : Vec F S1x1024 .f32) (x16 : Vec F S1024x1024 .bf16) (x17 : Vec F S1x1024 .f32) (x18 : Vec F S1x1024 .f32) (x19 : Vec F S64x1024 .bf16) (x20 : Vec F S64x1 .f32) (x21 : Vec F S512x512 .bf16) (xs4 : Vec F S8x544x128 .f32)
    (y : S8x544x128.Idx) :
    ∃ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).2.2.2.2.1, y ∈ p.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 xs4).2.2.2.2.1 ![1, 32, 128] (by sl_kernel_rfl) y

end Cert.Mix

end
-- ==== Proof.Mix.BodyOf.lean ====
/- The layer's mixing call run over its grid: what each point leaves, and the frame. -/
module

public import proofs.«01_k».proof.Proof.Mix.Cover
public import Idealize.ShloMosaic.Lib.Claim

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of one run of the body: into the four result blocks, the gated rows and the other scratch buffers. -/
structure Stores (F : FTy → Type) where
  /-- Stores into a buffer of shape S1x512x1024 .f32. -/
  l22 : List (View.Piece (Elt F) S1x512x1024 .f32)
  /-- Stores into a buffer of shape S1x512x1024 .bf16. -/
  l23 : List (View.Piece (Elt F) S1x512x1024 .bf16)
  /-- Stores into a buffer of shape S1x8x512 .f32. -/
  l24 : List (View.Piece (Elt F) S1x8x512 .f32)
  /-- Stores into a buffer of shape S1x32x128 .f32. -/
  l25 : List (View.Piece (Elt F) S1x32x128 .f32)
  /-- Stores into a buffer of shape S8x544x128 .f32. -/
  lS : List (View.Piece (Elt F) S8x544x128 .f32)
  /-- Stores into a buffer of shape S512x1024 .bf16. -/
  t0 : List (View.Piece (Elt F) S512x1024 .bf16)
  /-- Stores into a buffer of shape S512x2048 .f32. -/
  t1 : List (View.Piece (Elt F) S512x2048 .f32)
  /-- Stores into a buffer of shape S512x2048 .f32. -/
  t2 : List (View.Piece (Elt F) S512x2048 .f32)
  /-- Stores into a buffer of shape S512x2048 .f32. -/
  t3 : List (View.Piece (Elt F) S512x2048 .f32)
  /-- Stores into a buffer of shape S512x1024 .bf16. -/
  t5 : List (View.Piece (Elt F) S512x1024 .bf16)
  /-- Stores into a buffer of shape S512x1024 .f32. -/
  t6 : List (View.Piece (Elt F) S512x1024 .f32)
  /-- Stores into a buffer of shape S512x1024 .f32. -/
  t7 : List (View.Piece (Elt F) S512x1024 .f32)
  /-- Stores into a buffer of shape S512x1024 .f32. -/
  t8 : List (View.Piece (Elt F) S512x1024 .f32)
  /-- Stores into a buffer of shape S512x1024 .bf16. -/
  t9 : List (View.Piece (Elt F) S512x1024 .bf16)

/-- The stores of a run, out of the run's own bundle. -/
def pack {P : List (View.Piece (Elt F) S1x512x1024 .f32) → List (View.Piece (Elt F) S1x512x1024 .bf16) → List (View.Piece (Elt F) S1x8x512 .f32) → List (View.Piece (Elt F) S1x32x128 .f32) → List (View.Piece (Elt F) S8x544x128 .f32) → List (View.Piece (Elt F) S512x1024 .bf16) → List (View.Piece (Elt F) S512x2048 .f32) → List (View.Piece (Elt F) S512x2048 .f32) → List (View.Piece (Elt F) S512x2048 .f32) → List (View.Piece (Elt F) S512x1024 .bf16) → List (View.Piece (Elt F) S512x1024 .f32) → List (View.Piece (Elt F) S512x1024 .f32) → List (View.Piece (Elt F) S512x1024 .f32) → List (View.Piece (Elt F) S512x1024 .bf16) → Prop}
    (r : Σ' (a0 : List (View.Piece (Elt F) S1x512x1024 .f32)), Σ' (a1 : List (View.Piece (Elt F) S1x512x1024 .bf16)), Σ' (a2 : List (View.Piece (Elt F) S1x8x512 .f32)), Σ' (a3 : List (View.Piece (Elt F) S1x32x128 .f32)), Σ' (a4 : List (View.Piece (Elt F) S8x544x128 .f32)), Σ' (a5 : List (View.Piece (Elt F) S512x1024 .bf16)), Σ' (a6 : List (View.Piece (Elt F) S512x2048 .f32)), Σ' (a7 : List (View.Piece (Elt F) S512x2048 .f32)), Σ' (a8 : List (View.Piece (Elt F) S512x2048 .f32)), Σ' (a9 : List (View.Piece (Elt F) S512x1024 .bf16)), Σ' (a10 : List (View.Piece (Elt F) S512x1024 .f32)), Σ' (a11 : List (View.Piece (Elt F) S512x1024 .f32)), Σ' (a12 : List (View.Piece (Elt F) S512x1024 .f32)), { a13 : List (View.Piece (Elt F) S512x1024 .bf16) // P a0 a1 a2 a3 a4 a5 a6 a7 a8 a9 a10 a11 a12 a13 }) : Stores F :=
  ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1, r.2.2.2.2.2.2.2.2.2.2.1, r.2.2.2.2.2.2.2.2.2.2.2.1, r.2.2.2.2.2.2.2.2.2.2.2.2.1, r.2.2.2.2.2.2.2.2.2.2.2.2.2.1⟩

/-- What the bundle proves holds of the stores. -/
theorem pack_spec {P : List (View.Piece (Elt F) S1x512x1024 .f32) → List (View.Piece (Elt F) S1x512x1024 .bf16) → List (View.Piece (Elt F) S1x8x512 .f32) → List (View.Piece (Elt F) S1x32x128 .f32) → List (View.Piece (Elt F) S8x544x128 .f32) → List (View.Piece (Elt F) S512x1024 .bf16) → List (View.Piece (Elt F) S512x2048 .f32) → List (View.Piece (Elt F) S512x2048 .f32) → List (View.Piece (Elt F) S512x2048 .f32) → List (View.Piece (Elt F) S512x1024 .bf16) → List (View.Piece (Elt F) S512x1024 .f32) → List (View.Piece (Elt F) S512x1024 .f32) → List (View.Piece (Elt F) S512x1024 .f32) → List (View.Piece (Elt F) S512x1024 .bf16) → Prop}
    (r : Σ' (a0 : List (View.Piece (Elt F) S1x512x1024 .f32)), Σ' (a1 : List (View.Piece (Elt F) S1x512x1024 .bf16)), Σ' (a2 : List (View.Piece (Elt F) S1x8x512 .f32)), Σ' (a3 : List (View.Piece (Elt F) S1x32x128 .f32)), Σ' (a4 : List (View.Piece (Elt F) S8x544x128 .f32)), Σ' (a5 : List (View.Piece (Elt F) S512x1024 .bf16)), Σ' (a6 : List (View.Piece (Elt F) S512x2048 .f32)), Σ' (a7 : List (View.Piece (Elt F) S512x2048 .f32)), Σ' (a8 : List (View.Piece (Elt F) S512x2048 .f32)), Σ' (a9 : List (View.Piece (Elt F) S512x1024 .bf16)), Σ' (a10 : List (View.Piece (Elt F) S512x1024 .f32)), Σ' (a11 : List (View.Piece (Elt F) S512x1024 .f32)), Σ' (a12 : List (View.Piece (Elt F) S512x1024 .f32)), { a13 : List (View.Piece (Elt F) S512x1024 .bf16) // P a0 a1 a2 a3 a4 a5 a6 a7 a8 a9 a10 a11 a12 a13 }) :
    P (pack r).l22 (pack r).l23 (pack r).l24 (pack r).l25 (pack r).lS (pack r).t0 (pack r).t1 (pack r).t2 (pack r).t3 (pack r).t5 (pack r).t6 (pack r).t7 (pack r).t8 (pack r).t9 := r.2.2.2.2.2.2.2.2.2.2.2.2.2.2

attribute [local irreducible] kernelRun0_A kernelRun0_B

/-- The stores of the body at the first point of a sequence. -/
def stA (c : Dev nD) (t : Fin cfg0.N) (h : t.val % 8 = 0) : Stores F :=
  pack (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h) (fun h' => absurd ((hcond0_1 t).mp h') (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t))

/-- The stores of the body at a later point, with what the point before left of the gated rows. -/
def stB (c : Dev nD) (t : Fin cfg0.N) (h : ¬t.val % 8 = 0) (a : Vec F S8x544x128 .f32) : Stores F :=
  pack (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h' => h ((hcond0_0 t).mp h')) ((hcond0_1 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) a)

set_option maxHeartbeats 2000000 in
/-- The body at the first point of a sequence leaves those stores. -/
theorem runA (c : Dev nD) (t : Fin cfg0.N) (h : t.val % 8 = 0) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗ owns (c : Thread nD τ) (ms0_20 t) fullShare (iblk m c 20 t) ∗ owns (c : Thread nD τ) (ms0_21 t) fullShare (iblk m c 21 t) ∗ (∃ d, owns (c : Thread nD τ) (ms0_22 t) fullShare d) ∗ (∃ d, owns (c : Thread nD τ) (ms0_23 t) fullShare d) ∗ (∃ d, owns (c : Thread nD τ) (ms0_24 t) fullShare d) ∗ (∃ d, owns (c : Thread nD τ) (ms0_25 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗ owns (c : Thread nD τ) (ms0_20 t) fullShare (iblk m c 20 t) ∗ owns (c : Thread nD τ) (ms0_21 t) fullShare (iblk m c 21 t) ∗ (∃ f, (ms0_22 t).view.loc (c : Thread nD τ) ↦[(ms0_22 t).view.set]{fullShare} (ms0_22 t).view.writes (Elt F) f (stA m c t h).l22) ∗ (∃ f, (ms0_23 t).view.loc (c : Thread nD τ) ↦[(ms0_23 t).view.set]{fullShare} (ms0_23 t).view.writes (Elt F) f (stA m c t h).l23) ∗ (∃ f, (ms0_24 t).view.loc (c : Thread nD τ) ↦[(ms0_24 t).view.set]{fullShare} (ms0_24 t).view.writes (Elt F) f (stA m c t h).l24) ∗ (∃ f, (ms0_25 t).view.loc (c : Thread nD τ) ↦[(ms0_25 t).view.set]{fullShare} (ms0_25 t).view.writes (Elt F) f (stA m c t h).l25) ∗ (∃ f, (scM0_0).view.loc (c : Thread nD τ) ↦[(scM0_0).view.set]{fullShare} (scM0_0).view.writes (Elt F) f (stA m c t h).t0) ∗ (∃ f, (scM0_1).view.loc (c : Thread nD τ) ↦[(scM0_1).view.set]{fullShare} (scM0_1).view.writes (Elt F) f (stA m c t h).t1) ∗ (∃ f, (scM0_2).view.loc (c : Thread nD τ) ↦[(scM0_2).view.set]{fullShare} (scM0_2).view.writes (Elt F) f (stA m c t h).t2) ∗ (∃ f, (scM0_3).view.loc (c : Thread nD τ) ↦[(scM0_3).view.set]{fullShare} (scM0_3).view.writes (Elt F) f (stA m c t h).t3) ∗ (∃ f, (scM0_4).view.loc (c : Thread nD τ) ↦[(scM0_4).view.set]{fullShare} (scM0_4).view.writes (Elt F) f (stA m c t h).lS) ∗ (∃ f, (scM0_5).view.loc (c : Thread nD τ) ↦[(scM0_5).view.set]{fullShare} (scM0_5).view.writes (Elt F) f (stA m c t h).t5) ∗ (∃ f, (scM0_6).view.loc (c : Thread nD τ) ↦[(scM0_6).view.set]{fullShare} (scM0_6).view.writes (Elt F) f (stA m c t h).t6) ∗ (∃ f, (scM0_7).view.loc (c : Thread nD τ) ↦[(scM0_7).view.set]{fullShare} (scM0_7).view.writes (Elt F) f (stA m c t h).t7) ∗ (∃ f, (scM0_8).view.loc (c : Thread nD τ) ↦[(scM0_8).view.set]{fullShare} (scM0_8).view.writes (Elt F) f (stA m c t h).t8) ∗ (∃ f, (scM0_9).view.loc (c : Thread nD τ) ↦[(scM0_9).view.set]{fullShare} (scM0_9).view.writes (Elt F) f (stA m c t h).t9)) -∗ K ⟨⟩)) ⊢ wp frame (wpE (defs₀ (F := F)) Variants.none c none) Set.univ (bodyAt0 t) K :=
  pack_spec (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h) (fun h' => absurd ((hcond0_1 t).mp h') (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) Set.univ K

set_option maxHeartbeats 2000000 in
/-- The body at a later point leaves those stores. -/
theorem runB (c : Dev nD) (t : Fin cfg0.N) (h : ¬t.val % 8 = 0) (a : Vec F S8x544x128 .f32) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗ owns (c : Thread nD τ) (ms0_20 t) fullShare (iblk m c 20 t) ∗ owns (c : Thread nD τ) (ms0_21 t) fullShare (iblk m c 21 t) ∗ (∃ d, owns (c : Thread nD τ) (ms0_22 t) fullShare d) ∗ (∃ d, owns (c : Thread nD τ) (ms0_23 t) fullShare d) ∗ (∃ d, owns (c : Thread nD τ) (ms0_24 t) fullShare d) ∗ (∃ d, owns (c : Thread nD τ) (ms0_25 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare a ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗ owns (c : Thread nD τ) (ms0_20 t) fullShare (iblk m c 20 t) ∗ owns (c : Thread nD τ) (ms0_21 t) fullShare (iblk m c 21 t) ∗ (∃ f, (ms0_22 t).view.loc (c : Thread nD τ) ↦[(ms0_22 t).view.set]{fullShare} (ms0_22 t).view.writes (Elt F) f (stB m c t h a).l22) ∗ (∃ f, (ms0_23 t).view.loc (c : Thread nD τ) ↦[(ms0_23 t).view.set]{fullShare} (ms0_23 t).view.writes (Elt F) f (stB m c t h a).l23) ∗ (∃ f, (ms0_24 t).view.loc (c : Thread nD τ) ↦[(ms0_24 t).view.set]{fullShare} (ms0_24 t).view.writes (Elt F) f (stB m c t h a).l24) ∗ (∃ f, (ms0_25 t).view.loc (c : Thread nD τ) ↦[(ms0_25 t).view.set]{fullShare} (ms0_25 t).view.writes (Elt F) f (stB m c t h a).l25) ∗ (∃ f, (scM0_0).view.loc (c : Thread nD τ) ↦[(scM0_0).view.set]{fullShare} (scM0_0).view.writes (Elt F) f (stB m c t h a).t0) ∗ (∃ f, (scM0_1).view.loc (c : Thread nD τ) ↦[(scM0_1).view.set]{fullShare} (scM0_1).view.writes (Elt F) f (stB m c t h a).t1) ∗ (∃ f, (scM0_2).view.loc (c : Thread nD τ) ↦[(scM0_2).view.set]{fullShare} (scM0_2).view.writes (Elt F) f (stB m c t h a).t2) ∗ (∃ f, (scM0_3).view.loc (c : Thread nD τ) ↦[(scM0_3).view.set]{fullShare} (scM0_3).view.writes (Elt F) f (stB m c t h a).t3) ∗ (∃ f, (scM0_4).view.loc (c : Thread nD τ) ↦[(scM0_4).view.set]{fullShare} (scM0_4).view.writes (Elt F) f (stB m c t h a).lS) ∗ (∃ f, (scM0_5).view.loc (c : Thread nD τ) ↦[(scM0_5).view.set]{fullShare} (scM0_5).view.writes (Elt F) f (stB m c t h a).t5) ∗ (∃ f, (scM0_6).view.loc (c : Thread nD τ) ↦[(scM0_6).view.set]{fullShare} (scM0_6).view.writes (Elt F) f (stB m c t h a).t6) ∗ (∃ f, (scM0_7).view.loc (c : Thread nD τ) ↦[(scM0_7).view.set]{fullShare} (scM0_7).view.writes (Elt F) f (stB m c t h a).t7) ∗ (∃ f, (scM0_8).view.loc (c : Thread nD τ) ↦[(scM0_8).view.set]{fullShare} (scM0_8).view.writes (Elt F) f (stB m c t h a).t8) ∗ (∃ f, (scM0_9).view.loc (c : Thread nD τ) ↦[(scM0_9).view.set]{fullShare} (scM0_9).view.writes (Elt F) f (stB m c t h a).t9)) -∗ K ⟨⟩)) ⊢ wp frame (wpE (defs₀ (F := F)) Variants.none c none) Set.univ (bodyAt0 t) K :=
  pack_spec (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h' => h ((hcond0_0 t).mp h')) ((hcond0_1 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) a) Set.univ K

/-- They cover the block of result 0. -/
theorem covA22 (c : Dev nD) (t : Fin cfg0.N) (h : t.val % 8 = 0) : ∀ y, ∃ p ∈ (stA m c t h).l22, y ∈ p.1.set :=
  coverA22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the block of result 1. -/
theorem covA23 (c : Dev nD) (t : Fin cfg0.N) (h : t.val % 8 = 0) : ∀ y, ∃ p ∈ (stA m c t h).l23, y ∈ p.1.set :=
  coverA23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the block of result 2. -/
theorem covA24 (c : Dev nD) (t : Fin cfg0.N) (h : t.val % 8 = 0) : ∀ y, ∃ p ∈ (stA m c t h).l24, y ∈ p.1.set :=
  coverA24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the block of result 3. -/
theorem covA25 (c : Dev nD) (t : Fin cfg0.N) (h : t.val % 8 = 0) : ∀ y, ∃ p ∈ (stA m c t h).l25, y ∈ p.1.set :=
  coverA25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the gated rows. -/
theorem covAS (c : Dev nD) (t : Fin cfg0.N) (h : t.val % 8 = 0) : ∀ y, ∃ p ∈ (stA m c t h).lS, y ∈ p.1.set :=
  coverAS _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the block of result 0. -/
theorem covB22 (c : Dev nD) (t : Fin cfg0.N) (h : ¬t.val % 8 = 0) (a : Vec F S8x544x128 .f32) : ∀ y, ∃ p ∈ (stB m c t h a).l22, y ∈ p.1.set :=
  coverB22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the block of result 1. -/
theorem covB23 (c : Dev nD) (t : Fin cfg0.N) (h : ¬t.val % 8 = 0) (a : Vec F S8x544x128 .f32) : ∀ y, ∃ p ∈ (stB m c t h a).l23, y ∈ p.1.set :=
  coverB23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the block of result 2. -/
theorem covB24 (c : Dev nD) (t : Fin cfg0.N) (h : ¬t.val % 8 = 0) (a : Vec F S8x544x128 .f32) : ∀ y, ∃ p ∈ (stB m c t h a).l24, y ∈ p.1.set :=
  coverB24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the block of result 3. -/
theorem covB25 (c : Dev nD) (t : Fin cfg0.N) (h : ¬t.val % 8 = 0) (a : Vec F S8x544x128 .f32) : ∀ y, ∃ p ∈ (stB m c t h a).l25, y ∈ p.1.set :=
  coverB25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- They cover the gated rows. -/
theorem covBS (c : Dev nD) (t : Fin cfg0.N) (h : ¬t.val % 8 = 0) (a : Vec F S8x544x128 .f32) : ∀ y, ∃ p ∈ (stB m c t h a).lS, y ∈ p.1.set :=
  coverBS _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- The gated rows that a point leaves for the next one. -/
def carry (c : Dev nD) : (n : ℕ) → n < cfg0.N → Vec F S8x544x128 .f32
  | 0, hn => View.canon (stA m c ⟨0, hn⟩ rfl).lS
  | n + 1, hn =>
    if h : (n + 1) % 8 = 0 then View.canon (stA m c ⟨n + 1, hn⟩ h).lS
    else View.canon (stB m c ⟨n + 1, hn⟩ h (carry c n (Nat.lt_of_succ_lt hn))).lS

/-- At the first point of a sequence the gated rows are that point's own. -/
theorem carry_A (c : Dev nD) (t : Fin cfg0.N) (h : t.val % 8 = 0) :
    carry m c t.val t.isLt = View.canon (stA m c t h).lS := by
  obtain ⟨n, hn⟩ := t
  cases n with
  | zero => rfl
  | succ n => exact dif_pos h

/-- At a later point they are made from what the point before left. -/
theorem carry_B (c : Dev nD) (t : Fin cfg0.N) (h : ¬t.val % 8 = 0) :
    carry m c t.val t.isLt
      = View.canon (stB m c t h (carry m c (t.val - 1) (Nat.lt_of_le_of_lt (Nat.sub_le _ _) t.isLt))).lS := by
  obtain ⟨n, hn⟩ := t
  cases n with
  | zero => exact absurd rfl h
  | succ n => exact dif_neg h

/-- What a point leaves in its four result blocks. -/
def outs (c : Dev nD) (t : Fin cfg0.N) :
    Vec F S1x512x1024 .f32 × Vec F S1x512x1024 .bf16 × Vec F S1x8x512 .f32 × Vec F S1x32x128 .f32 :=
  if h : t.val % 8 = 0 then
    (View.canon (stA m c t h).l22, View.canon (stA m c t h).l23, View.canon (stA m c t h).l24, View.canon (stA m c t h).l25)
  else
    let r := stB m c t h (carry m c (t.val - 1) (Nat.lt_of_le_of_lt (Nat.sub_le _ _) t.isLt))
    (View.canon r.l22, View.canon r.l23, View.canon r.l24, View.canon r.l25)

/-- Result 0 at the first point of a sequence. -/
theorem outs_A22 (c : Dev nD) (t : Fin cfg0.N) (h : t.val % 8 = 0) :
    (outs m c t).1 = View.canon (stA m c t h).l22 := by
  rw [outs, dif_pos h]

/-- Result 1 at the first point of a sequence. -/
theorem outs_A23 (c : Dev nD) (t : Fin cfg0.N) (h : t.val % 8 = 0) :
    (outs m c t).2.1 = View.canon (stA m c t h).l23 := by
  rw [outs, dif_pos h]

/-- Result 2 at the first point of a sequence. -/
theorem outs_A24 (c : Dev nD) (t : Fin cfg0.N) (h : t.val % 8 = 0) :
    (outs m c t).2.2.1 = View.canon (stA m c t h).l24 := by
  rw [outs, dif_pos h]

/-- Result 3 at the first point of a sequence. -/
theorem outs_A25 (c : Dev nD) (t : Fin cfg0.N) (h : t.val % 8 = 0) :
    (outs m c t).2.2.2 = View.canon (stA m c t h).l25 := by
  rw [outs, dif_pos h]

/-- Result 0 at a later point. -/
theorem outs_B22 (c : Dev nD) (t : Fin cfg0.N) (h : ¬t.val % 8 = 0) :
    (outs m c t).1 = View.canon (stB m c t h (carry m c (t.val - 1) (Nat.lt_of_le_of_lt (Nat.sub_le _ _) t.isLt))).l22 := by
  rw [outs, dif_neg h]

/-- Result 1 at a later point. -/
theorem outs_B23 (c : Dev nD) (t : Fin cfg0.N) (h : ¬t.val % 8 = 0) :
    (outs m c t).2.1 = View.canon (stB m c t h (carry m c (t.val - 1) (Nat.lt_of_le_of_lt (Nat.sub_le _ _) t.isLt))).l23 := by
  rw [outs, dif_neg h]

/-- Result 2 at a later point. -/
theorem outs_B24 (c : Dev nD) (t : Fin cfg0.N) (h : ¬t.val % 8 = 0) :
    (outs m c t).2.2.1 = View.canon (stB m c t h (carry m c (t.val - 1) (Nat.lt_of_le_of_lt (Nat.sub_le _ _) t.isLt))).l24 := by
  rw [outs, dif_neg h]

/-- Result 3 at a later point. -/
theorem outs_B25 (c : Dev nD) (t : Fin cfg0.N) (h : ¬t.val % 8 = 0) :
    (outs m c t).2.2.2 = View.canon (stB m c t h (carry m c (t.val - 1) (Nat.lt_of_le_of_lt (Nat.sub_le _ _) t.isLt))).l25 := by
  rw [outs, dif_neg h]

/-- The invariant between points: the scratch buffers, with the gated rows known after the first point. -/
def Phi (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (carry m c n hn) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

/-- The invariant before the first point. -/
theorem Phi_zero (c : Dev nD) (n : ℕ) (h : n ≤ cfg0.N) (hz : n = 0) : Phi m c n h = Pipeline.ΦA spec0 c := by
  subst hz; rfl

/-- The invariant after a point. -/
theorem Phi_pos (c : Dev nD) (n : ℕ) (h : n ≤ cfg0.N) (hz : n ≠ 0) :
    Phi m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (carry m c (n - 1) (by omega)) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-- The invariant forgets what it knows of the gated rows. -/
theorem Phi_forget (c : Dev nD) (n : ℕ) (h : n ≤ cfg0.N) : Phi m c n h ⊢ Pipeline.ΦA spec0 c := by
  by_cases hz : n = 0
  · rw [Phi_zero m c n h hz]
  · rw [Phi_pos m c n h hz, PhiA0_eq]
    iintro ⟨⟨H0, H1, H2, H3, H4, H5, H6, H7, H8, H9⟩, Hg⟩
    isplitr [Hg]
    · isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [H7]; · iexact H7
      isplitl [H8]; · iexact H8
      iexact H9
    iexact Hg

/-- The proof data of the call: the arrays as the region finds them, each input's buffer at its block after a point, the
    results' at what the point leaves, and the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outs m c t).1
    | ⟨23, _⟩ => (outs m c t).2.1
    | ⟨24, _⟩ => (outs m c t).2.2.1
    | ⟨25, _⟩ => (outs m c t).2.2.2
    | ⟨_ + 26, h⟩ => absurd h (Nat.not_lt.2 (Nat.le_add_left _ _))
  Φ t := Phi m c t.val (Nat.le_of_lt_succ t.isLt)
  q _ := fullShare
  owed _ := 0

/-- The arrays of the proof data are those the region finds. -/
theorem dats_A (c : Dev nD) (w : Fin cfg0.W) : (dats m 0 c).A w = V m c (Pipeline.arrRef spec0 w) := by
  dsimp only [dats]

/-- The invariant at a point's start. -/
theorem Phi_start (c : Dev nD) (t : Fin cfg0.N) : (dats m 0 c).Φ t.castSucc = Phi m c t.val (Nat.le_of_lt t.isLt) := by
  dsimp only [dats]; exact Pipeline.Dat.Φ_castSucc (Phi m c) t

/-- Input 0 after a point. -/
theorem aft0 (c : Dev nD) (t : Fin cfg0.N) : (dats m 0 c).after 0 t = iblk m c 0 t := by dsimp only [dats]
/-- Input 1 after a point. -/
theorem aft1 (c : Dev nD) (t : Fin cfg0.N) : (dats m 0 c).after 1 t = iblk m c 1 t := by dsimp only [dats]
/-- Input 2 after a point. -/
theorem aft2 (c : Dev nD) (t : Fin cfg0.N) : (dats m 0 c).after 2 t = iblk m c 2 t := by dsimp only [dats]
/-- Input 3 after a point. -/
theorem aft3 (c : Dev nD) (t : Fin cfg0.N) : (dats m 0 c).after 3 t = iblk m c 3 t := by dsimp only [dats]
/-- Input 4 after a point. -/
theorem aft4 (c : Dev nD) (t : Fin cfg0.N) : (dats m 0 c).after 4 t = iblk m c 4 t := by dsimp only [dats]
/-- Input 5 after a point. -/
theorem aft5 (c : Dev nD) (t : Fin cfg0.N) : (dats m 0 c).after 5 t = iblk m c 5 t := by dsimp only [dats]
/-- Input 6 after a point. -/
theorem aft6 (c : Dev nD) (t : Fin cfg0.N) : (dats m 0 c).after 6 t = iblk m c 6 t := by dsimp only [dats]
/-- Input 7 after a point. -/
theorem aft7 (c : Dev nD) (t : Fin cfg0.N) : (dats m 0 c).after 7 t = iblk m c 7 t := by dsimp only [dats]
/-- Input 8 after a point. -/
theorem aft8 (c : Dev nD) (t : Fin cfg0.N) : (dats m 0 c).after 8 t = iblk m c 8 t := by dsimp only [dats]
/-- Input 9 after a point. -/
theorem aft9 (c : Dev nD) (t : Fin cfg0.N) : (dats m 0 c).after 9 t = iblk m c 9 t := by dsimp only [dats]
/-- Input 10 after a point. -/
theorem aft10 (c : Dev nD) (t : Fin cfg0.N) : (dats m 0 c).after 10 t = iblk m c 10 t := by dsimp only [dats]
/-- Input 11 after a point. -/
theorem aft11 (c : Dev nD) (t : Fin cfg0.N) : (dats m 0 c).after 11 t = iblk m c 11 t := by dsimp only [dats]
/-- Input 12 after a point. -/
theorem aft12 (c : Dev nD) (t : Fin cfg0.N) : (dats m 0 c).after 12 t = iblk m c 12 t := by dsimp only [dats]
/-- Input 13 after a point. -/
theorem aft13 (c : Dev nD) (t : Fin cfg0.N) : (dats m 0 c).after 13 t = iblk m c 13 t := by dsimp only [dats]
/-- Input 14 after a point. -/
theorem aft14 (c : Dev nD) (t : Fin cfg0.N) : (dats m 0 c).after 14 t = iblk m c 14 t := by dsimp only [dats]
/-- Input 15 after a point. -/
theorem aft15 (c : Dev nD) (t : Fin cfg0.N) : (dats m 0 c).after 15 t = iblk m c 15 t := by dsimp only [dats]
/-- Input 16 after a point. -/
theorem aft16 (c : Dev nD) (t : Fin cfg0.N) : (dats m 0 c).after 16 t = iblk m c 16 t := by dsimp only [dats]
/-- Input 17 after a point. -/
theorem aft17 (c : Dev nD) (t : Fin cfg0.N) : (dats m 0 c).after 17 t = iblk m c 17 t := by dsimp only [dats]
/-- Input 18 after a point. -/
theorem aft18 (c : Dev nD) (t : Fin cfg0.N) : (dats m 0 c).after 18 t = iblk m c 18 t := by dsimp only [dats]
/-- Input 19 after a point. -/
theorem aft19 (c : Dev nD) (t : Fin cfg0.N) : (dats m 0 c).after 19 t = iblk m c 19 t := by dsimp only [dats]
/-- Input 20 after a point. -/
theorem aft20 (c : Dev nD) (t : Fin cfg0.N) : (dats m 0 c).after 20 t = iblk m c 20 t := by dsimp only [dats]
/-- Input 21 after a point. -/
theorem aft21 (c : Dev nD) (t : Fin cfg0.N) : (dats m 0 c).after 21 t = iblk m c 21 t := by dsimp only [dats]
/-- Result 0 after a point. -/
theorem aft22 (c : Dev nD) (t : Fin cfg0.N) : (dats m 0 c).after 22 t = (outs m c t).1 := by dsimp only [dats]
/-- Result 1 after a point. -/
theorem aft23 (c : Dev nD) (t : Fin cfg0.N) : (dats m 0 c).after 23 t = (outs m c t).2.1 := by dsimp only [dats]
/-- Result 2 after a point. -/
theorem aft24 (c : Dev nD) (t : Fin cfg0.N) : (dats m 0 c).after 24 t = (outs m c t).2.2.1 := by dsimp only [dats]
/-- Result 3 after a point. -/
theorem aft25 (c : Dev nD) (t : Fin cfg0.N) : (dats m 0 c).after 25 t = (outs m c t).2.2.2 := by dsimp only [dats]
/-- Input 0 before a point. -/
theorem bef0 (c : Dev nD) (t : Fin cfg0.N) (d) : (dats m 0 c).before 0 t d = iblk m c 0 t :=
  before0_0_of m (dats m 0 c) (dats_A m c 0) (aft0 m c) t d
/-- Input 1 before a point. -/
theorem bef1 (c : Dev nD) (t : Fin cfg0.N) (d) : (dats m 0 c).before 1 t d = iblk m c 1 t :=
  before0_1_of m (dats m 0 c) (dats_A m c 1) (aft1 m c) t d
/-- Input 2 before a point. -/
theorem bef2 (c : Dev nD) (t : Fin cfg0.N) (d) : (dats m 0 c).before 2 t d = iblk m c 2 t :=
  before0_2_of m (dats m 0 c) (dats_A m c 2) (aft2 m c) t d
/-- Input 3 before a point. -/
theorem bef3 (c : Dev nD) (t : Fin cfg0.N) (d) : (dats m 0 c).before 3 t d = iblk m c 3 t :=
  before0_3_of m (dats m 0 c) (dats_A m c 3) (aft3 m c) t d
/-- Input 4 before a point. -/
theorem bef4 (c : Dev nD) (t : Fin cfg0.N) (d) : (dats m 0 c).before 4 t d = iblk m c 4 t :=
  before0_4_of m (dats m 0 c) (dats_A m c 4) (aft4 m c) t d
/-- Input 5 before a point. -/
theorem bef5 (c : Dev nD) (t : Fin cfg0.N) (d) : (dats m 0 c).before 5 t d = iblk m c 5 t :=
  before0_5_of m (dats m 0 c) (dats_A m c 5) (aft5 m c) t d
/-- Input 6 before a point. -/
theorem bef6 (c : Dev nD) (t : Fin cfg0.N) (d) : (dats m 0 c).before 6 t d = iblk m c 6 t :=
  before0_6_of m (dats m 0 c) (dats_A m c 6) (aft6 m c) t d
/-- Input 7 before a point. -/
theorem bef7 (c : Dev nD) (t : Fin cfg0.N) (d) : (dats m 0 c).before 7 t d = iblk m c 7 t :=
  before0_7_of m (dats m 0 c) (dats_A m c 7) (aft7 m c) t d
/-- Input 8 before a point. -/
theorem bef8 (c : Dev nD) (t : Fin cfg0.N) (d) : (dats m 0 c).before 8 t d = iblk m c 8 t :=
  before0_8_of m (dats m 0 c) (dats_A m c 8) (aft8 m c) t d
/-- Input 9 before a point. -/
theorem bef9 (c : Dev nD) (t : Fin cfg0.N) (d) : (dats m 0 c).before 9 t d = iblk m c 9 t :=
  before0_9_of m (dats m 0 c) (dats_A m c 9) (aft9 m c) t d
/-- Input 10 before a point. -/
theorem bef10 (c : Dev nD) (t : Fin cfg0.N) (d) : (dats m 0 c).before 10 t d = iblk m c 10 t :=
  before0_10_of m (dats m 0 c) (dats_A m c 10) (aft10 m c) t d
/-- Input 11 before a point. -/
theorem bef11 (c : Dev nD) (t : Fin cfg0.N) (d) : (dats m 0 c).before 11 t d = iblk m c 11 t :=
  before0_11_of m (dats m 0 c) (dats_A m c 11) (aft11 m c) t d
/-- Input 12 before a point. -/
theorem bef12 (c : Dev nD) (t : Fin cfg0.N) (d) : (dats m 0 c).before 12 t d = iblk m c 12 t :=
  before0_12_of m (dats m 0 c) (dats_A m c 12) (aft12 m c) t d
/-- Input 13 before a point. -/
theorem bef13 (c : Dev nD) (t : Fin cfg0.N) (d) : (dats m 0 c).before 13 t d = iblk m c 13 t :=
  before0_13_of m (dats m 0 c) (dats_A m c 13) (aft13 m c) t d
/-- Input 14 before a point. -/
theorem bef14 (c : Dev nD) (t : Fin cfg0.N) (d) : (dats m 0 c).before 14 t d = iblk m c 14 t :=
  before0_14_of m (dats m 0 c) (dats_A m c 14) (aft14 m c) t d
/-- Input 15 before a point. -/
theorem bef15 (c : Dev nD) (t : Fin cfg0.N) (d) : (dats m 0 c).before 15 t d = iblk m c 15 t :=
  before0_15_of m (dats m 0 c) (dats_A m c 15) (aft15 m c) t d
/-- Input 16 before a point. -/
theorem bef16 (c : Dev nD) (t : Fin cfg0.N) (d) : (dats m 0 c).before 16 t d = iblk m c 16 t :=
  before0_16_of m (dats m 0 c) (dats_A m c 16) (aft16 m c) t d
/-- Input 17 before a point. -/
theorem bef17 (c : Dev nD) (t : Fin cfg0.N) (d) : (dats m 0 c).before 17 t d = iblk m c 17 t :=
  before0_17_of m (dats m 0 c) (dats_A m c 17) (aft17 m c) t d
/-- Input 18 before a point. -/
theorem bef18 (c : Dev nD) (t : Fin cfg0.N) (d) : (dats m 0 c).before 18 t d = iblk m c 18 t :=
  before0_18_of m (dats m 0 c) (dats_A m c 18) (aft18 m c) t d
/-- Input 19 before a point. -/
theorem bef19 (c : Dev nD) (t : Fin cfg0.N) (d) : (dats m 0 c).before 19 t d = iblk m c 19 t :=
  before0_19_of m (dats m 0 c) (dats_A m c 19) (aft19 m c) t d
/-- Input 20 before a point. -/
theorem bef20 (c : Dev nD) (t : Fin cfg0.N) (d) : (dats m 0 c).before 20 t d = iblk m c 20 t :=
  before0_20_of m (dats m 0 c) (dats_A m c 20) (aft20 m c) t d
/-- Input 21 before a point. -/
theorem bef21 (c : Dev nD) (t : Fin cfg0.N) (d) : (dats m 0 c).before 21 t d = iblk m c 21 t :=
  before0_21_of m (dats m 0 c) (dats_A m c 21) (aft21 m c) t d

set_option maxHeartbeats 28800000 in
/-- One point of the grid, from any run of the body that leaves covering stores in the result blocks and the gated rows:
    the inputs' buffers come back as they were, each result's holds what was stored, and so do the gated rows. -/
theorem body_of (c : Dev nD) (t : Fin cfg0.N) (S4 O : sProp 𝕄) (L22 : List (View.Piece (Elt F) S1x512x1024 .f32)) (L23 : List (View.Piece (Elt F) S1x512x1024 .bf16)) (L24 : List (View.Piece (Elt F) S1x8x512 .f32)) (L25 : List (View.Piece (Elt F) S1x32x128 .f32)) (LT0 : List (View.Piece (Elt F) S512x1024 .bf16)) (LT1 : List (View.Piece (Elt F) S512x2048 .f32)) (LT2 : List (View.Piece (Elt F) S512x2048 .f32)) (LT3 : List (View.Piece (Elt F) S512x2048 .f32)) (LS4 : List (View.Piece (Elt F) S8x544x128 .f32)) (LT5 : List (View.Piece (Elt F) S512x1024 .bf16)) (LT6 : List (View.Piece (Elt F) S512x1024 .f32)) (LT7 : List (View.Piece (Elt F) S512x1024 .f32)) (LT8 : List (View.Piece (Elt F) S512x1024 .f32)) (LT9 : List (View.Piece (Elt F) S512x1024 .bf16))
    (hrun : ∀ K : PUnit → sProp 𝕄, iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗ owns (c : Thread nD τ) (ms0_20 t) fullShare (iblk m c 20 t) ∗ owns (c : Thread nD τ) (ms0_21 t) fullShare (iblk m c 21 t) ∗ (∃ d, owns (c : Thread nD τ) (ms0_22 t) fullShare d) ∗ (∃ d, owns (c : Thread nD τ) (ms0_23 t) fullShare d) ∗ (∃ d, owns (c : Thread nD τ) (ms0_24 t) fullShare d) ∗ (∃ d, owns (c : Thread nD τ) (ms0_25 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ S4 ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ owns (c : Thread nD τ) (ms0_19 t) fullShare (iblk m c 19 t) ∗ owns (c : Thread nD τ) (ms0_20 t) fullShare (iblk m c 20 t) ∗ owns (c : Thread nD τ) (ms0_21 t) fullShare (iblk m c 21 t) ∗ (∃ f, (ms0_22 t).view.loc (c : Thread nD τ) ↦[(ms0_22 t).view.set]{fullShare} (ms0_22 t).view.writes (Elt F) f L22) ∗ (∃ f, (ms0_23 t).view.loc (c : Thread nD τ) ↦[(ms0_23 t).view.set]{fullShare} (ms0_23 t).view.writes (Elt F) f L23) ∗ (∃ f, (ms0_24 t).view.loc (c : Thread nD τ) ↦[(ms0_24 t).view.set]{fullShare} (ms0_24 t).view.writes (Elt F) f L24) ∗ (∃ f, (ms0_25 t).view.loc (c : Thread nD τ) ↦[(ms0_25 t).view.set]{fullShare} (ms0_25 t).view.writes (Elt F) f L25) ∗ (∃ f, (scM0_0).view.loc (c : Thread nD τ) ↦[(scM0_0).view.set]{fullShare} (scM0_0).view.writes (Elt F) f LT0) ∗ (∃ f, (scM0_1).view.loc (c : Thread nD τ) ↦[(scM0_1).view.set]{fullShare} (scM0_1).view.writes (Elt F) f LT1) ∗ (∃ f, (scM0_2).view.loc (c : Thread nD τ) ↦[(scM0_2).view.set]{fullShare} (scM0_2).view.writes (Elt F) f LT2) ∗ (∃ f, (scM0_3).view.loc (c : Thread nD τ) ↦[(scM0_3).view.set]{fullShare} (scM0_3).view.writes (Elt F) f LT3) ∗ (∃ f, (scM0_4).view.loc (c : Thread nD τ) ↦[(scM0_4).view.set]{fullShare} (scM0_4).view.writes (Elt F) f LS4) ∗ (∃ f, (scM0_5).view.loc (c : Thread nD τ) ↦[(scM0_5).view.set]{fullShare} (scM0_5).view.writes (Elt F) f LT5) ∗ (∃ f, (scM0_6).view.loc (c : Thread nD τ) ↦[(scM0_6).view.set]{fullShare} (scM0_6).view.writes (Elt F) f LT6) ∗ (∃ f, (scM0_7).view.loc (c : Thread nD τ) ↦[(scM0_7).view.set]{fullShare} (scM0_7).view.writes (Elt F) f LT7) ∗ (∃ f, (scM0_8).view.loc (c : Thread nD τ) ↦[(scM0_8).view.set]{fullShare} (scM0_8).view.writes (Elt F) f LT8) ∗ (∃ f, (scM0_9).view.loc (c : Thread nD τ) ↦[(scM0_9).view.set]{fullShare} (scM0_9).view.writes (Elt F) f LT9)) -∗ K ⟨⟩)) ⊢ wp frame (wpE (defs₀ (F := F)) Variants.none c none) Set.univ (bodyAt0 t) K)
    (c22 : ∀ y, ∃ p ∈ L22, y ∈ p.1.set) (c23 : ∀ y, ∃ p ∈ L23, y ∈ p.1.set) (c24 : ∀ y, ∃ p ∈ L24, y ∈ p.1.set) (c25 : ∀ y, ∃ p ∈ L25, y ∈ p.1.set) (cS : ∀ y, ∃ p ∈ LS4, y ∈ p.1.set) :
    iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ S4 ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) ∗ O ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)) ∗ (∃ d, owns (c : Thread nD τ) (ms0_25 t) fullShare ((dats m 0 c).before 25 t d)))
      ⊢ wp frame (wpE (defs₀ (F := F)) Variants.none c none) Set.univ (bodyAt0 t) (fun _ => iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (View.canon LS4) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) ∗ O ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t) ∗ owns (c : Thread nD τ) (ms0_21 t) fullShare ((dats m 0 c).after 21 t) ∗ owns (c : Thread nD τ) (ms0_22 t) fullShare (View.canon L22) ∗ owns (c : Thread nD τ) (ms0_23 t) fullShare (View.canon L23) ∗ owns (c : Thread nD τ) (ms0_24 t) fullShare (View.canon L24) ∗ owns (c : Thread nD τ) (ms0_25 t) fullShare (View.canon L25))) := by
  simp only [bef0, bef1, bef2, bef3, bef4, bef5, bef6, bef7, bef8, bef9, bef10, bef11, bef12, bef13, bef14, bef15, bef16, bef17, bef18, bef19, bef20, bef21, aft0, aft1, aft2, aft3, aft4, aft5, aft6, aft7, aft8, aft9, aft10, aft11, aft12, aft13, aft14, aft15, aft16, aft17, aft18, aft19, aft20, aft21]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, ⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩
  isplitl [S0 S1 S2 S3 S4 S5 S6 S7 S8 S9 Hg]
  · isplitl [S0 S1 S2 S3 S4 S5 S6 S7 S8 S9]
    · isplitl [S0]
      · iexists _; unfold owns; iexists _; isplitr
        swap; · iexact S0
        ipureintro; rfl
      isplitl [S1]
      · iexists _; unfold owns; iexists _; isplitr
        swap; · iexact S1
        ipureintro; rfl
      isplitl [S2]
      · iexists _; unfold owns; iexists _; isplitr
        swap; · iexact S2
        ipureintro; rfl
      isplitl [S3]
      · iexists _; unfold owns; iexists _; isplitr
        swap; · iexact S3
        ipureintro; rfl
      isplitl [S4]
      · unfold owns; iexists _; isplitr
        swap; · iexact S4
        ipureintro; exact View.read_writes_eq_canon _ _ _ cS
      isplitl [S5]
      · iexists _; unfold owns; iexists _; isplitr
        swap; · iexact S5
        ipureintro; rfl
      isplitl [S6]
      · iexists _; unfold owns; iexists _; isplitr
        swap; · iexact S6
        ipureintro; rfl
      isplitl [S7]
      · iexists _; unfold owns; iexists _; isplitr
        swap; · iexact S7
        ipureintro; rfl
      isplitl [S8]
      · iexists _; unfold owns; iexists _; isplitr
        swap; · iexact S8
        ipureintro; rfl
      iexists _; unfold owns; iexists _; isplitr
      swap; · iexact S9
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_eq_canon _ _ _ c22
  isplitl [H23]
  · unfold owns; iexists _; isplitr
    swap; · iexact H23
    ipureintro; exact View.read_writes_eq_canon _ _ _ c23
  isplitl [H24]
  · unfold owns; iexists _; isplitr
    swap; · iexact H24
    ipureintro; exact View.read_writes_eq_canon _ _ _ c24
  unfold owns; iexists _; isplitr
  swap; · iexact H25
  ipureintro; exact View.read_writes_eq_canon _ _ _ c25

end Cert.Mix

end
-- ==== Proof.Mix.Body2.lean ====
/- The layer's mixing call run over its grid: what each point leaves, and the frame. -/
module

public import proofs.«01_k».proof.Proof.Mix.BodyOf
public import Idealize.ShloMosaic.Lib.Claim

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point. -/
def pre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)) ∗ (∃ d, owns (c : Thread nD τ) (ms0_25 t) fullShare ((dats m 0 c).before 25 t d)))
/-- What it returns. -/
def post (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t) ∗ owns (c : Thread nD τ) (ms0_21 t) fullShare ((dats m 0 c).after 21 t) ∗ owns (c : Thread nD τ) (ms0_22 t) fullShare ((dats m 0 c).after 22 t) ∗ owns (c : Thread nD τ) (ms0_23 t) fullShare ((dats m 0 c).after 23 t) ∗ owns (c : Thread nD τ) (ms0_24 t) fullShare ((dats m 0 c).after 24 t) ∗ owns (c : Thread nD τ) (ms0_25 t) fullShare ((dats m 0 c).after 25 t))

/-- The invariant after a point, with the gated rows that the point leaves. -/
theorem Phi_end (c : Dev nD) (t : Fin cfg0.N) : (dats m 0 c).Φ t.succ
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (carry m c t.val t.isLt) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := rfl

set_option maxHeartbeats 2000000 in
/-- The body at the first point of a sequence. -/
theorem body_A (c : Dev nD) (t : Fin cfg0.N) (h : t.val % 8 = 0) : pre m c t ⊢ wp frame (wpE (defs₀ (F := F)) Variants.none c none) Set.univ (bodyAt0 t) (fun _ => post m c t) := by
  have key := body_of m c t iprop(∃ d, owns (c : Thread nD τ) scM0_4 fullShare d) ((dats m 0 c).owesAt () t.castSucc) (stA m c t h).l22 (stA m c t h).l23 (stA m c t h).l24 (stA m c t h).l25 (stA m c t h).t0 (stA m c t h).t1 (stA m c t h).t2 (stA m c t h).t3 (stA m c t h).lS (stA m c t h).t5 (stA m c t h).t6 (stA m c t h).t7 (stA m c t h).t8 (stA m c t h).t9 (runA m c t h)
    (covA22 m c t h) (covA23 m c t h) (covA24 m c t h) (covA25 m c t h) (covAS m c t h)
  unfold pre post
  rw [show (dats m 0 c).owesAt () t.succ = (dats m 0 c).owesAt () t.castSucc from rfl, aft22, aft23, aft24, aft25, Phi_end,
    Phi_start, carry_A m c t h, outs_A22 m c t h, outs_A23 m c t h, outs_A24 m c t h, outs_A25 m c t h]
  exact (sep_mono ((Phi_forget m c _ _).trans (Entails.of_eq (PhiA0_eq c))) .rfl).trans key

set_option maxHeartbeats 2000000 in
/-- The body at a later point of a sequence. -/
theorem body_B (c : Dev nD) (t : Fin cfg0.N) (h : ¬t.val % 8 = 0) : pre m c t ⊢ wp frame (wpE (defs₀ (F := F)) Variants.none c none) Set.univ (bodyAt0 t) (fun _ => post m c t) := by
  have key := body_of m c t (owns (c : Thread nD τ) scM0_4 fullShare (carry m c (t.val - 1) (Nat.lt_of_le_of_lt (Nat.sub_le _ _) t.isLt))) ((dats m 0 c).owesAt () t.castSucc) (stB m c t h (carry m c (t.val - 1) (Nat.lt_of_le_of_lt (Nat.sub_le _ _) t.isLt))).l22 (stB m c t h (carry m c (t.val - 1) (Nat.lt_of_le_of_lt (Nat.sub_le _ _) t.isLt))).l23 (stB m c t h (carry m c (t.val - 1) (Nat.lt_of_le_of_lt (Nat.sub_le _ _) t.isLt))).l24 (stB m c t h (carry m c (t.val - 1) (Nat.lt_of_le_of_lt (Nat.sub_le _ _) t.isLt))).l25 (stB m c t h (carry m c (t.val - 1) (Nat.lt_of_le_of_lt (Nat.sub_le _ _) t.isLt))).t0 (stB m c t h (carry m c (t.val - 1) (Nat.lt_of_le_of_lt (Nat.sub_le _ _) t.isLt))).t1 (stB m c t h (carry m c (t.val - 1) (Nat.lt_of_le_of_lt (Nat.sub_le _ _) t.isLt))).t2 (stB m c t h (carry m c (t.val - 1) (Nat.lt_of_le_of_lt (Nat.sub_le _ _) t.isLt))).t3 (stB m c t h (carry m c (t.val - 1) (Nat.lt_of_le_of_lt (Nat.sub_le _ _) t.isLt))).lS (stB m c t h (carry m c (t.val - 1) (Nat.lt_of_le_of_lt (Nat.sub_le _ _) t.isLt))).t5 (stB m c t h (carry m c (t.val - 1) (Nat.lt_of_le_of_lt (Nat.sub_le _ _) t.isLt))).t6 (stB m c t h (carry m c (t.val - 1) (Nat.lt_of_le_of_lt (Nat.sub_le _ _) t.isLt))).t7 (stB m c t h (carry m c (t.val - 1) (Nat.lt_of_le_of_lt (Nat.sub_le _ _) t.isLt))).t8 (stB m c t h (carry m c (t.val - 1) (Nat.lt_of_le_of_lt (Nat.sub_le _ _) t.isLt))).t9 (runB m c t h _)
    (covB22 m c t h _) (covB23 m c t h _) (covB24 m c t h _) (covB25 m c t h _) (covBS m c t h _)
  unfold pre post
  rw [show (dats m 0 c).owesAt () t.succ = (dats m 0 c).owesAt () t.castSucc from rfl, aft22, aft23, aft24, aft25, Phi_end,
    Phi_start, carry_B m c t h, outs_B22 m c t h, outs_B23 m c t h, outs_B24 m c t h, outs_B25 m c t h,
    Phi_pos m c _ _ (fun hz => h (by rw [hz]))]
  exact key

end Cert.Mix

end
-- ==== Proof.Mix.Body3.lean ====
/- The layer's mixing call run over its grid: what each point leaves, and the frame. -/
module

public import proofs.«01_k».proof.Proof.Mix.Body2
public import Idealize.ShloMosaic.Lib.Claim

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row of the body table at a point's slots is the body at that point. -/
theorem row_body (t : Fin cfg0.N) : defs₀ (F := F) .tc cfg0.body (cfg0.bodyArgs t (cfg0.slots t)) = bodyAt0 t := by
  unfold defs₀; rw [Defs.onTc_tc]

set_option maxHeartbeats 8000000 in
/-- The library's obligation for the body, at every point. -/
theorem obligation (c : Dev nD) : BodyObligation (dats (F := F) m 0 c) (defs₀ (F := F)) Variants.none () Set.univ := fun t => by
  rw [bigSep_W0, bigSep_W0, row_body]
  by_cases h : t.val % 8 = 0
  · exact triple_restated (body_A m c t h) rfl .rfl fun _ => .rfl
  · exact triple_restated (body_B m c t h) rfl .rfl fun _ => .rfl

/-- What the launch hands over is the invariant before the first point. -/
theorem Phi_in (c : Dev nD) : Pipeline.ΦA spec0 c ⊢ (dats m 0 c).Φ 0 := by
  rw [show (dats m 0 c).Φ 0 = Phi m c 0 (Nat.zero_le _) from rfl, Phi_zero m c 0 _ rfl]

/-- After the last point the invariant gives it back. -/
theorem Phi_out (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  exact Phi_forget m c _ _

set_option backward.isDefEq.respectTransparency.types false in
/-- The launch: every execution ends with the arrays at what the proof data says and every counter at zero. -/
theorem launch : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := Phi_in m) (hout := Phi_out m)

/-- The same, without the counters. -/
theorem launched : θ_run defs (onTc (τ := τ) (main (F := F))) (s₀ m ρ) (Pipeline.FramePost cfgs (dats m) 0 (V m)) :=
  (θ_run defs _ _).mono (fun _ h => h.1) (launch m ρ)

/-- The frame: the arguments end as they were launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  θ_run_and (frame_of m ρ (dats m) (dats_A m) (launched m ρ)) ((θ_run defs _ _).mono (fun _ h => h.2) (launch m ρ))

end Cert.Mix

end
-- ==== Proof.Mix.FrameP.lean ====
/- The frame of the kernel at machine floats, from the run at any float values. -/
module

public import proofs.«01_k».proof.Defs
public import proofs.«01_k».proof.Proof.Gen.Kernel
public import proofs.«01_k».proof.Proof.Mix.Body3
public import Idealize.ShloMosaic.Adequacy
public import Idealize.ShloMosaic.Init

@[expose] public section

noncomputable section

namespace Cert.Mix

open Idealize.ShloMosaic Idealize.SL.Sem

/-- The frame's statement at machine floats, of the program printed for reading over the reals. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

/-- The two programs are the same text, so their frames say the same at machine floats. -/
theorem same_text : Cert.quiescent_Kernel (hKernel := Cert.Kernel.Gen.facts) = FrameBits := by
  sl_kernel_rfl

/-- The frame of the kernel at machine floats, from the run at any float values. -/
theorem frame_kernel : Cert.quiescent_Kernel (hKernel := Cert.Kernel.Gen.facts) :=
  same_text.mpr fun m ρ _ => frame (F := Bits) m ρ

end Cert.Mix

end
-- ==== Proof.Mix.Spec.lean ====
/- The mathematics of the mixer, over the extended reals: one function per stage, each of the rows it needs. Nothing here
   mentions a program. -/
module

public import Idealize.ShloMosaic.Lib.Pointwise

@[expose] public section

noncomputable section

namespace Cert.Mix

open Idealize.ShloMosaic

/-- The width 1024 as the programs' literal. -/
abbrev cD : EReal := Ideal.ofBits .f32 0x44800000#32
/-- The norms' small constant as the programs' literal. -/
abbrev cEps : EReal := Ideal.ofBits .f32 0x358637BD#32
/-- The literal one half. -/
abbrev cHalf : EReal := Ideal.ofBits .f32 0x3F000000#32
/-- The literal for the square root of one half. -/
abbrev cRt : EReal := Ideal.ofBits .f32 0x3F3504F3#32

/-- A vector of the model's width. -/
abbrev Row := Fin 1024 → EReal

/-- The weights of the mixer. -/
structure Par where
  g1 : Row
  w : Fin 1024 → Fin 6144 → EReal
  b : Fin 6144 → EReal
  cw : Fin 31 → Row
  cb : Row
  clg : Row
  clb : Row
  wco : Fin 1024 → Row
  bco : Row
  slg : Row
  slb : Row
  wsg : Fin 8 → Fin 128 → Fin 128 → EReal
  bsg : Fin 8 → Fin 128 → EReal
  wso : Fin 1024 → Row
  bso : Row
  wout : Fin 1024 → Row
  bout : Row
  g2 : Row

/-- The root-mean-square norm of a row, scaled by `g`. -/
def rms (x g : Row) : Row := fun k =>
  x k * Ideal.rsqrt (Ideal.div (∑ j, x j * x j) cD + cEps) * g k

/-- The mean of a row. -/
def mean (x : Row) : EReal := Ideal.div (∑ j, x j) cD

/-- The layer norm of a row, scaled by `g` and shifted by `b`. -/
def ln (x g b : Row) : Row := fun k =>
  (x k - mean x) * Ideal.rsqrt (Ideal.div (∑ j, (x j - mean x) * (x j - mean x)) cD + cEps) * g k + b k

/-- A row times a matrix. -/
def lin {N : ℕ} (x : Row) (w : Fin 1024 → Fin N → EReal) (n : Fin N) : EReal := ∑ k, x k * w k n

/-- The exact Gaussian error linear unit. -/
def gelu (z : EReal) : EReal := cHalf * z * (1 + Ideal.erf (z * cRt))

/-- The input projection of a token's row. -/
def proj (p : Par) (x : Row) (n : Fin 6144) : EReal := lin (rms x p.g1) p.w n + p.b n

/-- Channel `ch` of the `o`-th block of 1024 channels of the projection. -/
def at6 (o : Fin 6) (ch : Fin 1024) : Fin 6144 := ⟨o.val * 1024 + ch.val, by omega⟩

/-- The gated linear unit that feeds the convolution. -/
def glu (p : Par) (x : Row) : Row := fun ch =>
  proj p x (at6 0 ch) * Ideal.logistic (proj p x (at6 1 ch))

/-- The depthwise convolution: 31 taps over the rows `a 0 … a 30`, and the bias. -/
def conv (p : Par) (a : Fin 31 → Row) : Row := fun ch => p.cb ch + ∑ k, p.cw k ch * a k ch

/-- The convolution's norm and activation. -/
def cact (p : Par) (a : Fin 31 → Row) : Row := fun ch =>
  ln (conv p a) p.clg p.clb ch * Ideal.logistic (ln (conv p a) p.clg p.clb ch)

/-- The convolution branch's output. -/
def ya (p : Par) (a : Fin 31 → Row) : Row := fun n => lin (cact p a) p.wco n + p.bco n

/-- The spatial gating's first half. -/
def uu (p : Par) (x : Row) : Row := fun ch => gelu (proj p x (at6 2 ch))

/-- The spatial gating's second half, normed. -/
def vv (p : Par) (x : Row) : Row := ln (fun ch => gelu (proj p x (at6 3 ch))) p.slg p.slb

/-- The head a channel belongs to. -/
def hd (ch : Fin 1024) : Fin 8 := ⟨ch.val / 128, by omega⟩

/-- The mixing of a block of 128 tokens' rows `v` along the tokens, masked by chunks of 64, at token `q`. -/
def sv (p : Par) (v : Fin 128 → Row) (q : Fin 128) : Row := fun ch =>
  (∑ k : Fin 128, (if k.val / 64 ≤ q.val / 64 then p.wsg (hd ch) q k else 0) * v k ch) + p.bsg (hd ch) q

/-- The spatial gating branch's output at token `q` of the block whose rows are `x`. -/
def yb (p : Par) (x : Fin 128 → Row) (q : Fin 128) : Row := fun n =>
  lin (fun ch => uu p (x q) ch * sv p (fun k => vv p (x k)) q ch) p.wso n + p.bso n

/-- The gated sum of the two branches. -/
def mm (p : Par) (a : Fin 31 → Row) (x : Fin 128 → Row) (q : Fin 128) : Row := fun ch =>
  Ideal.logistic (proj p (x q) (at6 4 ch)) * ya p a ch + Ideal.logistic (proj p (x q) (at6 5 ch)) * yb p x q ch

/-- The residual stream after the mixer. -/
def xOut (p : Par) (a : Fin 31 → Row) (x : Fin 128 → Row) (q : Fin 128) : Row := fun n =>
  x q n + lin (mm p a x q) p.wout n + p.bout n

/-- The second norm. -/
def hOut (p : Par) (a : Fin 31 → Row) (x : Fin 128 → Row) (q : Fin 128) : Row := rms (xOut p a x q) p.g2

/-- The value of the literal one half. -/
theorem cHalf_eq : cHalf = ((1 / 2 : ℝ) : EReal) := by
  simp [cHalf, Ideal.ofBits, Ideal.ieee, -EReal.coe_mul]; norm_num

/-- The kernel's sigmoid by a hyperbolic tangent is the logistic function, at every extended real. -/
theorem sig_eq (z : EReal) : cHalf * Ideal.tanh (cHalf * z) + cHalf = Ideal.logistic z := by
  rw [cHalf_eq]
  have hp : (0 : ℝ) < 1 / 2 := by norm_num
  induction z with
  | bot =>
    rw [EReal.coe_mul_bot_of_pos hp, Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos hp, Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e1 : Real.exp (1 / 2 * r) = Real.exp (-(1 / 2 * r)) * Real.exp r := by
      rw [← Real.exp_add]; congr 1; ring
    have e2 : Real.exp (-r) * Real.exp r = 1 := by rw [← Real.exp_add]; simp
    have h1 := Real.exp_pos (-(1 / 2 * r))
    have h2 := Real.exp_pos r
    have h3 := Real.exp_pos (-r)
    rw [e1]
    have e3 : Real.exp (-r) = (Real.exp r)⁻¹ := Real.exp_neg r
    rw [e3]
    field_simp
    ring

/-- jax's exact GELU by the complementary error function is the one by the error function. -/
theorem gelu_eq (z : EReal) : cHalf * z * Ideal.erfc (-z * cRt) = gelu z := by
  rw [gelu, neg_mul, Ideal.erfc_neg]

/-- A bias and 31 terms added one after the other are the bias and the terms' sum. -/
theorem chain31 (c : EReal) (f : Fin 31 → EReal) :
    c + f 0 + f 1 + f 2 + f 3 + f 4 + f 5 + f 6 + f 7 + f 8 + f 9 + f 10 + f 11 + f 12 + f 13 + f 14 + f 15 + f 16
      + f 17 + f 18 + f 19 + f 20 + f 21 + f 22 + f 23 + f 24 + f 25 + f 26 + f 27 + f 28 + f 29 + f 30
      = c + ∑ k, f k := by
  simp only [Fin.sum_univ_succ, Fin.sum_univ_zero, add_zero, add_assoc]
  rfl

/-- 31 terms added one after the other, and the bias added last, are the bias and the terms' sum. -/
theorem chain31' (c : EReal) (f : Fin 31 → EReal) :
    f 0 + f 1 + f 2 + f 3 + f 4 + f 5 + f 6 + f 7 + f 8 + f 9 + f 10 + f 11 + f 12 + f 13 + f 14 + f 15 + f 16
      + f 17 + f 18 + f 19 + f 20 + f 21 + f 22 + f 23 + f 24 + f 25 + f 26 + f 27 + f 28 + f 29 + f 30 + c
      = c + ∑ k, f k := by
  rw [← chain31, add_comm]
  simp only [add_assoc]

/-- An array of extended reals of the given sizes. -/
abbrev A2 (a b : ℕ) := (⟨2, ![a, b]⟩ : Shape).Idx → EReal
/-- An array of extended reals of the given sizes. -/
abbrev A3 (a b c : ℕ) := (⟨3, ![a, b, c]⟩ : Shape).Idx → EReal
/-- An array of extended reals of the given sizes. -/
abbrev A4 (a b c d : ℕ) := (⟨4, ![a, b, c, d]⟩ : Shape).Idx → EReal

/-- The weights as the layer's arguments hold them. -/
def parOf (a1 : A2 1 1024) (a2 : A3 1 1024 6144) (a3 : A2 1 6144) (a4 : A3 1 31 1024) (a5 a6 a7 : A2 1 1024)
    (a8 : A3 1 1024 1024) (a9 a10 a11 : A2 1 1024) (a12 : A4 1 8 128 128) (a13 : A3 1 8 128) (a14 : A3 1 1024 1024)
    (a15 : A2 1 1024) (a16 : A3 1 1024 1024) (a17 a18 : A2 1 1024) : Par where
  g1 k := a1 (ix2 0 k)
  w k n := a2 (ix3 0 k n)
  b n := a3 (ix2 0 n)
  cw k c := a4 (ix3 0 k c)
  cb c := a5 (ix2 0 c)
  clg c := a6 (ix2 0 c)
  clb c := a7 (ix2 0 c)
  wco k n := a8 (ix3 0 k n)
  bco n := a9 (ix2 0 n)
  slg c := a10 (ix2 0 c)
  slb c := a11 (ix2 0 c)
  wsg h q k := a12 (ix4 0 h q k)
  bsg h q := a13 (ix3 0 h q)
  wso k n := a14 (ix3 0 k n)
  bso n := a15 (ix2 0 n)
  wout k n := a16 (ix3 0 k n)
  bout n := a17 (ix2 0 n)
  g2 k := a18 (ix2 0 k)

/-- The rows of the residual stream. -/
def rowsOf (a0 : A3 16 4096 1024) (b : Fin 16) (t : Fin 4096) : Row := fun k => a0 (ix3 b t k)

/-- The convolution's input with 30 rows of zeros before the first token, at row `q`. -/
def padRow (p : Par) (x : Fin 4096 → Row) (q : ℕ) : Row := fun ch =>
  if h : q < 30 ∨ 4126 ≤ q then 0 else glu p (x ⟨q - 30, by omega⟩) ch

/-- The convolution's taps at token `t`: tap `k` is token `k + t - 30`, and zero before the first token. -/
def tap (p : Par) (x : Fin 4096 → Row) (t : Fin 4096) (k : Fin 31) : Row := padRow p x (k.val + t.val)

/-- The rows of the block of 128 tokens that token `t` lies in. -/
def blk (x : Fin 4096 → Row) (t : Fin 4096) (i : Fin 128) : Row := x ⟨t.val / 128 * 128 + i.val, by omega⟩

/-- A token's place in its block of 128 tokens. -/
def pos (t : Fin 4096) : Fin 128 := ⟨t.val % 128, by omega⟩

/-- The residual stream after the mixer, at every token. -/
def X1 (p : Par) (x : Fin 4096 → Row) (t : Fin 4096) : Row := xOut p (tap p x t) (blk x t) (pos t)

/-- The second norm, at every token. -/
def H2 (p : Par) (x : Fin 4096 → Row) (t : Fin 4096) : Row := hOut p (tap p x t) (blk x t) (pos t)

/-- A token's own row in its block. -/
theorem blk_pos (x : Fin 4096 → Row) (t : Fin 4096) : blk x t (pos t) = x t := by
  unfold blk pos
  congr 1
  ext
  simp only
  omega

/-- The residual stream after the mixer, with the token's own row written out. -/
theorem X1_eq (p : Par) (x : Fin 4096 → Row) (t : Fin 4096) (n : Fin 1024) :
    X1 p x t n = x t n + lin (fun ch => Ideal.logistic (proj p (x t) (at6 4 ch)) * ya p (tap p x t) ch
      + Ideal.logistic (proj p (x t) (at6 5 ch))
        * (lin (fun c => uu p (x t) c * sv p (fun k => vv p (blk x t k)) (pos t) c) p.wso ch + p.bso ch)) p.wout n + p.bout n := by
  unfold X1 xOut mm yb
  simp only [blk_pos]

end Cert.Mix
-- ==== Proof.Mix.Pay.lean ====
/- What the kernel's payloads are at an index, over the extended reals. -/
module

public import proofs.«01_k».proof.Proof.Gen.KernelIdeal.Skeleton
public import proofs.«01_k».proof.Proof.Mix.Spec
public import Idealize.ShloMosaic.Lib.Pointwise

@[expose] public section

noncomputable section

namespace Cert.Mix

open Idealize.ShloMosaic Cert.KernelIdeal Cert.KernelIdeal.Gen

/-- A row of a two-dimensional array. -/
abbrev row {a b : ℕ} (x : A2 a b) (r : Fin a) : Fin b → EReal := fun k => x (ix2 r k)

/-- The first norm's payload at an index. -/
theorem pay3_at (x : Vec Ideal S1x512x1024 .f32) (g : Vec Ideal S1x1024 .f32) (r : Fin 512) (k : Fin 1024) :
    k0_pay3 x g (ix2 r k) = rms (fun k => x (ix3 0 r k)) (row g 0) k := by
  unfold k0_pay3
  pointwise
  rfl

/-- A product's payload at an index: every product of the kernel of this shape has this text. -/
theorem pay6_at (h : Vec Ideal S512x1024 .bf16) (w : Vec Ideal S1024x512 .bf16) (r n : Fin 512) :
    k0_pay6 h w (ix2 r n) = ∑ k, h (ix2 r k) * w (ix2 k n) := by
  unfold k0_pay6
  pointwise

/-- The gated linear unit's payload at an index. -/
theorem pay9_at (p : Vec Ideal S512x1024 .f32) (b : Vec Ideal S1x1024 .f32) (q : Vec Ideal S512x1024 .f32) (c : Vec Ideal S1x1024 .f32)
    (r : Fin 512) (k : Fin 1024) :
    k0_pay9 p b q c (ix2 r k) = (p (ix2 r k) + b (ix2 0 k)) * Ideal.logistic (q (ix2 r k) + c (ix2 0 k)) := by
  unfold k0_pay9
  pointwise
  rw [← sig_eq]

/-- The convolution's norm and activation at an index. -/
theorem pay656_at (c : Vec Ideal S512x1024 .f32) (g b : Vec Ideal S1x1024 .f32) (r : Fin 512) (k : Fin 1024) :
    k0_pay656 (k0_pay654 c g) (k0_pay655 b) (ix2 r k)
      = ln (row c r) (row g 0) (row b 0) k * Ideal.logistic (ln (row c r) (row g 0) (row b 0) k) := by
  unfold k0_pay656 k0_pay654 k0_pay655
  pointwise
  rw [← sig_eq]
  rfl

/-- The first half of the spatial gating at an index. -/
theorem pay659_at (p : Vec Ideal S512x1024 .f32) (b : Vec Ideal S1x1024 .f32) (r : Fin 512) (k : Fin 1024) :
    k0_pay659 p b (ix2 r k) = gelu (p (ix2 r k) + b (ix2 0 k)) := by
  unfold k0_pay659
  pointwise
  simp [gelu, Ideal.ofBits, Ideal.ieee]

/-- The second half of the spatial gating at an index. -/
theorem pay664_at (p : Vec Ideal S512x1024 .f32) (b g s : Vec Ideal S1x1024 .f32) (r : Fin 512) (k : Fin 1024) :
    k0_pay664 (k0_pay660 p b) (k0_pay661 g) (k0_pay662 s) (k0_pay663 p b) (ix2 r k)
      = ln (fun k => gelu (p (ix2 r k) + b (ix2 0 k))) (row g 0) (row s 0) k := by
  unfold k0_pay664 k0_pay663 k0_pay660 k0_pay661 k0_pay662
  pointwise
  simp [gelu, Ideal.ofBits, Ideal.ieee, ln, mean]

/-- The chunk of 64 of a row, as the kernel's integers compute it. -/
theorem pay665_at (q k : Fin 128) : k0_pay665 (ix2 q k) = BitVec.ofNat 32 (q.val / 64) := by
  unfold k0_pay665
  pointwise
  revert q
  decide +kernel

/-- The mask of the spatial gating at an index. -/
theorem pay666_at (q k : Fin 128) : k0_pay666 k0_pay665 (iota .tc S128x128 32 [1] iota_S128x128_d1_w32) 64#32 (ix2 q k)
    = if k.val / 64 ≤ q.val / 64 then 1#1 else 0#1 := by
  unfold k0_pay666
  pointwise [pay665_at]
  refine (congrArg (IntOp.cmpi .sge _) (?_ : _ = BitVec.ofNat 32 (k.val / 64))).trans ?_
  · revert k
    decide +kernel
  · revert q k
    decide +kernel

/-- The gate at an index. -/
theorem pay719_at (p0 : Vec Ideal S512x1024 .f32) (b0 : Vec Ideal S1x1024 .f32) (p1 : Vec Ideal S512x1024 .f32) (b1 : Vec Ideal S1x1024 .f32)
    (y0 : Vec Ideal S512x1024 .f32) (c0 : Vec Ideal S1x1024 .f32) (y1 : Vec Ideal S512x1024 .f32) (c1 : Vec Ideal S1x1024 .f32)
    (r : Fin 512) (k : Fin 1024) :
    k0_pay720 (k0_pay719 p0 b0 p1 b1 y0 c0 y1 c1) (ix2 r k)
      = Ideal.logistic (p0 (ix2 r k) + b0 (ix2 0 k)) * (y0 (ix2 r k) + c0 (ix2 0 k))
        + Ideal.logistic (p1 (ix2 r k) + b1 (ix2 0 k)) * (y1 (ix2 r k) + c1 (ix2 0 k)) := by
  unfold k0_pay720 k0_pay719
  pointwise
  rw [← sig_eq, ← sig_eq]

/-- The residual at an index. -/
theorem pay724_at (x : Vec Ideal S1x512x1024 .f32) (y : Vec Ideal S512x1024 .f32) (b : Vec Ideal S1x1024 .f32) (r : Fin 512) (k : Fin 1024) :
    k0_pay724 (k0_pay723 x y b) (ix3 0 r k) = x (ix3 0 r k) + y (ix2 r k) + b (ix2 0 k) := by
  unfold k0_pay724 k0_pay723
  pointwise

/-- The second norm at an index. -/
theorem pay725_at (x : Vec Ideal S1x512x1024 .f32) (y : Vec Ideal S512x1024 .f32) (b g : Vec Ideal S1x1024 .f32) (r : Fin 512) (k : Fin 1024) :
    k0_pay725 (k0_pay723 x y b) g (ix3 0 r k) = rms (fun k => x (ix3 0 r k) + y (ix2 r k) + b (ix2 0 k)) (row g 0) k := by
  unfold k0_pay725 k0_pay723
  pointwise
  rfl

end Cert.Mix
-- ==== Proof.Mix.Arr.lean ====
/- Arrays by their coordinates, and what a rectangle of one reads. -/
module

public import proofs.«01_k».proof.Proof.Mix.Spec
public import Idealize.ShloMosaic.Lib.Pipeline.ReadBack
public import Idealize.ShloMosaic.Lib.Pipeline.ValueKit.Geometry
public import Idealize.ShloMosaic.Lib.Pointwise

@[expose] public section

noncomputable section

namespace Cert.Mix

open Idealize.ShloMosaic

/-- The two-dimensional array of a function of two coordinates. -/
def arr2 {α : Type} {a b : ℕ} (f : Fin a → Fin b → α) : (⟨2, ![a, b]⟩ : Shape).Idx → α := fun j => f (j 0) (j 1)
/-- The three-dimensional array of a function of three coordinates. -/
def arr3 {α : Type} {a b c : ℕ} (f : Fin a → Fin b → Fin c → α) : (⟨3, ![a, b, c]⟩ : Shape).Idx → α := fun j => f (j 0) (j 1) (j 2)

/-- The array of a function at a pair of coordinates. -/
@[simp] theorem arr2_ix2 {α : Type} {a b : ℕ} (f : Fin a → Fin b → α) (i : Fin a) (l : Fin b) : arr2 f (ix2 i l) = f i l := rfl
/-- The array of a function at three coordinates. -/
@[simp] theorem arr3_ix3 {α : Type} {a b c : ℕ} (f : Fin a → Fin b → Fin c → α) (i : Fin a) (l : Fin b) (k : Fin c) :
    arr3 f (ix3 i l k) = f i l k := rfl

/-- A row moved by a rectangle's offset stays in the array. -/
theorem lt20 {a b m n : ℕ} {off : Fin 2 → ℕ} (inb : ∀ k, off k + (![m, n] : Fin 2 → ℕ) k ≤ (![a, b] : Fin 2 → ℕ) k) (i : Fin m) :
    off 0 + i.val < a := by
  have h := inb 0
  simp only [Matrix.cons_val_zero] at h
  omega

/-- A column moved by a rectangle's offset stays in the array. -/
theorem lt21 {a b m n : ℕ} {off : Fin 2 → ℕ} (inb : ∀ k, off k + (![m, n] : Fin 2 → ℕ) k ≤ (![a, b] : Fin 2 → ℕ) k) (i : Fin n) :
    off 1 + i.val < b := by
  have h := inb 1
  simp only [Matrix.cons_val_one, Matrix.cons_val_zero] at h
  omega

/-- A first coordinate moved by a rectangle's offset stays in the array. -/
theorem lt30 {a b c m n k : ℕ} {off : Fin 3 → ℕ} (inb : ∀ j, off j + (![m, n, k] : Fin 3 → ℕ) j ≤ (![a, b, c] : Fin 3 → ℕ) j) (i : Fin m) :
    off 0 + i.val < a := by
  have h := inb 0
  simp only [Matrix.cons_val_zero] at h
  omega

/-- A second coordinate moved by a rectangle's offset stays in the array. -/
theorem lt31 {a b c m n k : ℕ} {off : Fin 3 → ℕ} (inb : ∀ j, off j + (![m, n, k] : Fin 3 → ℕ) j ≤ (![a, b, c] : Fin 3 → ℕ) j) (i : Fin n) :
    off 1 + i.val < b := by
  have h := inb 1
  simp only [Matrix.cons_val_one, Matrix.cons_val_zero] at h
  omega

/-- A third coordinate moved by a rectangle's offset stays in the array. -/
theorem lt32 {a b c m n k : ℕ} {off : Fin 3 → ℕ} (inb : ∀ j, off j + (![m, n, k] : Fin 3 → ℕ) j ≤ (![a, b, c] : Fin 3 → ℕ) j) (i : Fin k) :
    off 2 + i.val < c := by
  have h := inb 2
  simp only [Matrix.cons_val] at h
  omega

/-- A rectangle of a two-dimensional array places its own coordinates at its offsets. -/
theorem emb2 {a b m n : ℕ} {off : Fin 2 → ℕ} (inb : ∀ k, off k + (![m, n] : Fin 2 → ℕ) k ≤ (![a, b] : Fin 2 → ℕ) k)
    (i : Fin m) (l : Fin n) :
    (Rect.unit (s := ⟨2, ![a, b]⟩) off ![m, n] inb).emb (ix2 i l)
      = ix2 ⟨off 0 + i, lt20 inb i⟩ ⟨off 1 + l, lt21 inb l⟩ := by
  funext k
  refine Fin.ext ?_
  rw [ValueKit.rect_emb_unit_val]
  fin_cases k <;> rfl

/-- A rectangle of a three-dimensional array places its own coordinates at its offsets. -/
theorem emb3 {a b c m n k : ℕ} {off : Fin 3 → ℕ}
    (inb : ∀ j, off j + (![m, n, k] : Fin 3 → ℕ) j ≤ (![a, b, c] : Fin 3 → ℕ) j)
    (i : Fin m) (l : Fin n) (d : Fin k) :
    (Rect.unit (s := ⟨3, ![a, b, c]⟩) off ![m, n, k] inb).emb (ix3 i l d)
      = ix3 ⟨off 0 + i, lt30 inb i⟩ ⟨off 1 + l, lt31 inb l⟩ ⟨off 2 + d, lt32 inb d⟩ := by
  funext k
  refine Fin.ext ?_
  rw [ValueKit.rect_emb_unit_val]
  fin_cases k <;> rfl

/-- A stored piece of a two-dimensional array, entry by entry, over the pieces stored before it. -/
theorem cons2 {e : EltTy} {a b m n : ℕ} {off : Fin 2 → ℕ} {inb : ∀ k, off k + (![m, n] : Fin 2 → ℕ) k ≤ (![a, b] : Fin 2 → ℕ) k}
    {f : Fin a → Fin b → Elt Ideal e} {pay : (⟨2, ![m, n]⟩ : Shape).Idx → Elt Ideal e}
    {L : List (View.Piece (Elt Ideal) ⟨2, ![a, b]⟩ e)}
    (h : ∀ i l, pay (ix2 i l) = f ⟨off 0 + i, lt20 inb i⟩ ⟨off 1 + l, lt21 inb l⟩)
    (hL : View.PiecesOf (arr2 f) L) :
    View.PiecesOf (arr2 f) (⟨Rect.unit (s := ⟨2, ![a, b]⟩) off ![m, n] inb, pay⟩ :: L) := by
  refine ⟨fun x => ?_, hL⟩
  obtain ⟨i, l, rfl⟩ : ∃ i l, x = ix2 i l := ⟨x 0, x 1, by funext k; fin_cases k <;> rfl⟩
  exact (h i l).trans (congrArg (arr2 f) (emb2 inb i l)).symm

/-- A stored piece of a three-dimensional array, entry by entry, over the pieces stored before it. -/
theorem cons3 {e : EltTy} {a b c m n k : ℕ} {off : Fin 3 → ℕ}
    {inb : ∀ j, off j + (![m, n, k] : Fin 3 → ℕ) j ≤ (![a, b, c] : Fin 3 → ℕ) j}
    {f : Fin a → Fin b → Fin c → Elt Ideal e} {pay : (⟨3, ![m, n, k]⟩ : Shape).Idx → Elt Ideal e}
    {L : List (View.Piece (Elt Ideal) ⟨3, ![a, b, c]⟩ e)}
    (h : ∀ i l d, pay (ix3 i l d)
      = f ⟨off 0 + i, lt30 inb i⟩ ⟨off 1 + l, lt31 inb l⟩ ⟨off 2 + d, lt32 inb d⟩)
    (hL : View.PiecesOf (arr3 f) L) :
    View.PiecesOf (arr3 f) (⟨Rect.unit (s := ⟨3, ![a, b, c]⟩) off ![m, n, k] inb, pay⟩ :: L) := by
  refine ⟨fun x => ?_, hL⟩
  obtain ⟨i, l, d, rfl⟩ : ∃ i l d, x = ix3 i l d := ⟨x 0, x 1, x 2, by funext k; fin_cases k <;> rfl⟩
  exact (h i l d).trans (congrArg (arr3 f) (emb3 inb i l d)).symm

variable {sig : RefSig} {κ : Kind} {sp : Space}

/-- A load of a staged two-dimensional input reads it at the rectangle's offsets. -/
theorem readAt2 {a b m n : ℕ} {off : Fin 2 → ℕ} {e : EltTy} (M : Memref sig κ sp ⟨2, ![a, b]⟩ e) (hM : M.IsWhole) (x : (⟨2, ![a, b]⟩ : Shape).Idx → Elt Ideal e)
    (inb : ∀ k, off k + (![m, n] : Fin 2 → ℕ) k ≤ (![a, b] : Fin 2 → ℕ) k) :
    View.readAt (Elt Ideal) M.view (Rect.unit (s := ⟨2, ![a, b]⟩) off ![m, n] inb).toLoadRect (hM.unread (Val := Elt Ideal) x)
      = arr2 fun i l => x (ix2 ⟨off 0 + i, lt20 inb i⟩ ⟨off 1 + l, lt21 inb l⟩) := by
  rw [View.readAt_eq_ld, hM.read_unread]
  funext j
  obtain ⟨i, l, rfl⟩ : ∃ i l, j = ix2 i l := ⟨j 0, j 1, by funext k; fin_cases k <;> rfl⟩
  exact congrArg x (emb2 inb i l)

/-- A load of a staged three-dimensional input reads it at the rectangle's offsets. -/
theorem readAt3 {a b c m n k : ℕ} {off : Fin 3 → ℕ} {e : EltTy} (M : Memref sig κ sp ⟨3, ![a, b, c]⟩ e) (hM : M.IsWhole) (x : (⟨3, ![a, b, c]⟩ : Shape).Idx → Elt Ideal e)
    (inb : ∀ j, off j + (![m, n, k] : Fin 3 → ℕ) j ≤ (![a, b, c] : Fin 3 → ℕ) j) :
    View.readAt (Elt Ideal) M.view (Rect.unit (s := ⟨3, ![a, b, c]⟩) off ![m, n, k] inb).toLoadRect
        (hM.unread (Val := Elt Ideal) x)
      = arr3 fun i l d => x (ix3 ⟨off 0 + i, lt30 inb i⟩ ⟨off 1 + l, lt31 inb l⟩ ⟨off 2 + d, lt32 inb d⟩) := by
  rw [View.readAt_eq_ld, hM.read_unread]
  funext j
  obtain ⟨i, l, d, rfl⟩ : ∃ i l d, j = ix3 i l d := ⟨j 0, j 1, j 2, by funext k; fin_cases k <;> rfl⟩
  exact congrArg x (emb3 inb i l d)

/-- A load of a two-dimensional scratch whose stores are known where the load reads. -/
theorem readCov2 {a b m n : ℕ} {off : Fin 2 → ℕ} {e : EltTy} (v : View sig κ sp ⟨2, ![a, b]⟩ e)
    (L : List (View.Piece (Elt Ideal) ⟨2, ![a, b]⟩ e)) (G : Fin a → Fin b → Elt Ideal e)
    (inb : ∀ k, off k + (![m, n] : Fin 2 → ℕ) k ≤ (![a, b] : Fin 2 → ℕ) k)
    (hG : ∀ (i : Fin m) (l : Fin n), View.canon L (ix2 ⟨off 0 + i, lt20 inb i⟩ ⟨off 1 + l, lt21 inb l⟩)
      = G ⟨off 0 + i, lt20 inb i⟩ ⟨off 1 + l, lt21 inb l⟩) :
    v.readCov L (Rect.unit (s := ⟨2, ![a, b]⟩) off ![m, n] inb).toLoadRect
      = arr2 fun i l => G ⟨off 0 + i, lt20 inb i⟩ ⟨off 1 + l, lt21 inb l⟩ := by
  rw [View.readCov_eq_canon']
  funext j
  obtain ⟨i, l, rfl⟩ : ∃ i l, j = ix2 i l := ⟨j 0, j 1, by funext k; fin_cases k <;> rfl⟩
  exact (congrArg (View.canon L) (emb2 inb i l)).trans (hG i l)

/-- A load of a two-dimensional scratch whose stores leave a known array. -/
theorem readAll2 {a b m n : ℕ} {off : Fin 2 → ℕ} {e : EltTy} (v : View sig κ sp ⟨2, ![a, b]⟩ e)
    (L : List (View.Piece (Elt Ideal) ⟨2, ![a, b]⟩ e)) (G : Fin a → Fin b → Elt Ideal e)
    (hG : View.canon L = arr2 G)
    (inb : ∀ k, off k + (![m, n] : Fin 2 → ℕ) k ≤ (![a, b] : Fin 2 → ℕ) k) :
    v.readCov L (Rect.unit (s := ⟨2, ![a, b]⟩) off ![m, n] inb).toLoadRect
      = arr2 fun i l => G ⟨off 0 + i, lt20 inb i⟩ ⟨off 1 + l, lt21 inb l⟩ :=
  readCov2 v L G inb fun _ _ => by rw [hG]; rfl

/-- A load of a three-dimensional scratch whose stores are known where the load reads. -/
theorem readAll3 {a b c m n k : ℕ} {off : Fin 3 → ℕ} {e : EltTy} (v : View sig κ sp ⟨3, ![a, b, c]⟩ e)
    (L : List (View.Piece (Elt Ideal) ⟨3, ![a, b, c]⟩ e)) (G : Fin a → Fin b → Fin c → Elt Ideal e)
    (hG : View.canon L = arr3 G)
    (inb : ∀ j, off j + (![m, n, k] : Fin 3 → ℕ) j ≤ (![a, b, c] : Fin 3 → ℕ) j) :
    v.readCov L (Rect.unit (s := ⟨3, ![a, b, c]⟩) off ![m, n, k] inb).toLoadRect
      = arr3 fun i l d => G ⟨off 0 + i, lt30 inb i⟩ ⟨off 1 + l, lt31 inb l⟩ ⟨off 2 + d, lt32 inb d⟩ := by
  rw [View.readCov_eq_canon', hG]
  funext j
  obtain ⟨i, l, d, rfl⟩ : ∃ i l d, j = ix3 i l d := ⟨j 0, j 1, j 2, by funext k; fin_cases k <;> rfl⟩
  exact congrArg (arr3 G) (emb3 inb i l d)

/-- Stores that cover an array and hold an array's entries leave that array. -/
theorem canon_full {S : Shape} {e : EltTy} (G : S.Idx → Elt Ideal e) (L : List (View.Piece (Elt Ideal) S e))
    (h : View.PiecesOf G L) (hc : ∀ y, ∃ p ∈ L, y ∈ p.1.set) : View.canon L = G := by
  funext y
  have := View.canon_append_of_piecesOf G [] L h y (hc y)
  rwa [List.append_nil] at this

/-- The newest stores of a buffer, which hold an array's entries and cover all but a rectangle `D`, leave that array off `D`. -/
theorem canon_top {S : Shape} {e : EltTy} (n : ℕ) (G : S.Idx → Elt Ideal e) (L : List (View.Piece (Elt Ideal) S e))
    (D : View.Piece (Elt Ideal) S e) (h : View.PiecesOf G (L.take n)) (hc : ∀ y, ∃ p ∈ D :: L.take n, y ∈ p.1.set)
    (y : S.Idx) (hy : y ∉ D.1.set) : View.canon L y = G y := by
  have := View.canon_append_of_piecesOf G (L.drop n) (L.take n) h y (by
    obtain ⟨p, hp, hyp⟩ := hc y
    rcases List.mem_cons.mp hp with rfl | hp
    · exact absurd hyp hy
    · exact ⟨p, hp, hyp⟩)
  rwa [List.take_append_drop] at this

end Cert.Mix
-- ==== Proof.Mix.Tile.lean ====
/- What one tile of 512 rows holds at each stage of the mixer. -/
module

public import proofs.«01_k».proof.Proof.Mix.Arr

@[expose] public section

noncomputable section

namespace Cert.Mix

open Idealize.ShloMosaic

/-- The weights as the kernel's blocks hold them. -/
def tp (x1 : A2 1 1024) (x2 : A2 1024 6144) (x3 : A2 1 6144) (x4 : A2 31 1024) (x5 x6 x7 : A2 1 1024) (x8 : A2 1024 1024)
    (x9 x10 x11 : A2 1 1024) (x12 : A3 8 128 128) (x13 : A2 128 8) (x14 : A2 1024 1024) (x15 : A2 1 1024) (x16 : A2 1024 1024)
    (x17 x18 : A2 1 1024) : Par where
  g1 k := x1 (ix2 0 k)
  w k n := x2 (ix2 k n)
  b n := x3 (ix2 0 n)
  cw k c := x4 (ix2 k c)
  cb c := x5 (ix2 0 c)
  clg c := x6 (ix2 0 c)
  clb c := x7 (ix2 0 c)
  wco k n := x8 (ix2 k n)
  bco n := x9 (ix2 0 n)
  slg c := x10 (ix2 0 c)
  slb c := x11 (ix2 0 c)
  wsg h q k := x12 (ix3 h q k)
  bsg h q := x13 (ix2 q h)
  wso k n := x14 (ix2 k n)
  bso n := x15 (ix2 0 n)
  wout k n := x16 (ix2 k n)
  bout n := x17 (ix2 0 n)
  g2 k := x18 (ix2 0 k)

/-- The rows of a tile. -/
def tx (x0 : A3 1 512 1024) (r : Fin 512) : Row := fun k => x0 (ix3 0 r k)

/-- The normed rows. -/
def tH (p : Par) (x : Fin 512 → Row) (r : Fin 512) (k : Fin 1024) : EReal := rms (x r) p.g1 k

/-- The `i`-th third of the input projection, without its bias. -/
def tP (p : Par) (x : Fin 512 → Row) (i : Fin 3) (r : Fin 512) (n : Fin 2048) : EReal :=
  lin (rms (x r) p.g1) p.w ⟨2048 * i.val + n.val, by omega⟩

/-- The convolution's input by channel groups: 32 rows carried in, then the tile's own. -/
def tA (p : Par) (x : Fin 512 → Row) (halo : Fin 8 → Fin 32 → Fin 128 → EReal) (c : Fin 8) (q : Fin 544) (l : Fin 128) : EReal :=
  if h : q.val < 32 then halo c ⟨q.val, h⟩ l else glu p (x ⟨q.val - 32, by omega⟩) ⟨128 * c.val + l.val, by omega⟩

/-- The convolution's taps at row `r`. -/
def tT (a : Fin 8 → Fin 544 → Fin 128 → EReal) (r : Fin 512) (k : Fin 31) : Row := fun ch =>
  a ⟨ch.val / 128, by omega⟩ ⟨r.val + 2 + k.val, by omega⟩ ⟨ch.val % 128, by omega⟩

/-- The rows of the block of 128 that row `r` lies in. -/
def tB (x : Fin 512 → Row) (r : Fin 512) (k : Fin 128) : Row := x ⟨r.val / 128 * 128 + k.val, by omega⟩

/-- A row's place in its block of 128. -/
def tQ (r : Fin 512) : Fin 128 := ⟨r.val % 128, by omega⟩

/-- The convolution's output, in the left half of a buffer of 2048 columns. -/
def tC (p : Par) (a : Fin 8 → Fin 544 → Fin 128 → EReal) (r : Fin 512) (n : Fin 2048) : EReal :=
  if h : n.val < 1024 then conv p (tT a r) ⟨n.val, h⟩ else 0

/-- One column group of the convolution's output, as the bias and the sum of the 31 taps. -/
theorem tC_at (p : Par) (a : Fin 8 → Fin 544 → Fin 128 → EReal) (c : Fin 8) (r : Fin 512) (l : Fin 128) (n : Fin 2048)
    (hn : n.val = 128 * c.val + l.val) :
    tC p a r n = p.cb ⟨128 * c.val + l.val, by omega⟩
      + ∑ k : Fin 31, p.cw k ⟨128 * c.val + l.val, by omega⟩ * a c ⟨r.val + 2 + k.val, by omega⟩ l := by
  have e : tC p a r n = conv p (tT a r) ⟨128 * c.val + l.val, by omega⟩ := by
    unfold tC
    rw [dif_pos (by omega)]
    congr 1
    exact Fin.ext hn
  rw [e]
  unfold conv tT
  congr 1
  refine Finset.sum_congr rfl fun k _ => ?_
  congr 2 <;> refine Fin.ext ?_ <;> simp only <;> omega

/-- A bias read at equal columns. -/
theorem bias_leaf (x : A2 1 1024) {n n' : Fin 1024} (hn : n.val = n'.val) : x (ix2 0 n) = x (ix2 0 n') := by rw [Fin.ext hn]

/-- A tap's weight times its row, read at equal places. -/
theorem tap_leaf (x : A2 31 1024) (a : Fin 8 → Fin 544 → Fin 128 → EReal) {k k' : Fin 31} {n n' : Fin 1024} {c c' : Fin 8} {q q' : Fin 544}
    {l l' : Fin 128} (hk : k.val = k'.val) (hn : n.val = n'.val) (hc : c.val = c'.val) (hq : q.val = q'.val) (hl : l.val = l'.val) :
    x (ix2 k n) * a c q l = x (ix2 k' n') * a c' q' l' := by
  rw [Fin.ext hk, Fin.ext hn, Fin.ext hc, Fin.ext hq, Fin.ext hl]

end Cert.Mix
-- ==== Proof.Mix.Off.lean ====
/- The offsets of the kernel's rectangles that its text computes, as numbers. -/
module

public import proofs.«01_k».proof.Proof.Gen.KernelIdeal.Skeleton
public import proofs.«01_k».proof.Proof.Mix.Tile

@[expose] public section

noncomputable section

namespace Cert.Mix

open Idealize.ShloMosaic Cert.KernelIdeal Cert.KernelIdeal.Gen

/-- The offsets of a whole block. -/
theorem o1 : k0_off1 = ![0, 0, 0] := rfl
/-- The offsets of a whole scratch. -/
theorem o2 : k0_off2 = ![0, 0] := rfl
/-- The offsets of a scratch's left half. -/
theorem o3 : k0_off3 = ![0, 0] := rfl
/-- The offsets of a scratch's right half. -/
theorem o4 : k0_off4 = ![0, 1024] := rfl
/-- The offsets of column group 0 below the carried rows. -/
theorem o5 : k0_off5 = ![0, 32, 0] := rfl
/-- The offsets of column group 1 below the carried rows. -/
theorem o6 : k0_off6 = ![1, 32, 0] := rfl
/-- The offsets of column group 2 below the carried rows. -/
theorem o7 : k0_off7 = ![2, 32, 0] := rfl
/-- The offsets of column group 3 below the carried rows. -/
theorem o8 : k0_off8 = ![3, 32, 0] := rfl
/-- The offsets of column group 4 below the carried rows. -/
theorem o9 : k0_off9 = ![4, 32, 0] := rfl
/-- The offsets of column group 5 below the carried rows. -/
theorem o10 : k0_off10 = ![5, 32, 0] := rfl
/-- The offsets of column group 6 below the carried rows. -/
theorem o11 : k0_off11 = ![6, 32, 0] := rfl
/-- The offsets of column group 7 below the carried rows. -/
theorem o12 : k0_off12 = ![7, 32, 0] := rfl

/-- The first norm at an index, from the blocks. -/
theorem tH_at (x1 : A2 1 1024) (x2 : A2 1024 6144) (x3 : A2 1 6144) (x4 : A2 31 1024) (x5 x6 x7 : A2 1 1024) (x8 : A2 1024 1024)
    (x9 x10 x11 : A2 1 1024) (x12 : A3 8 128 128) (x13 : A2 128 8) (x14 : A2 1024 1024) (x15 : A2 1 1024) (x16 : A2 1024 1024)
    (x17 x18 : A2 1 1024) (x0 : A3 1 512 1024) (r : Fin 512) (k : Fin 1024) :
    tH (tp x1 x2 x3 x4 x5 x6 x7 x8 x9 x10 x11 x12 x13 x14 x15 x16 x17 x18) (tx x0) r k
      = rms (fun k => x0 (ix3 0 r k)) (fun k => x1 (ix2 0 k)) k := rfl

/-- A row of the input projection without its bias, from a block of columns of the weights. -/
theorem tP_at (p : Par) (x : Fin 512 → Row) (i : Fin 3) (r : Fin 512) (n : Fin 2048) (w : A2 1024 6144) (hw : ∀ k m, p.w k m = w (ix2 k m))
    (m : Fin 6144) (hm : m.val = 2048 * i.val + n.val) :
    ∑ k, tH p x r k * w (ix2 k m) = tP p x i r n := by
  unfold tH tP lin
  refine Finset.sum_congr rfl fun k _ => ?_
  rw [hw]
  congr 3
  exact Fin.ext hm

/-- The projection at a column of the `i`-th third: the product and the bias. -/
theorem proj_at (p : Par) (x : Fin 512 → Row) (i : Fin 3) (r r' : Fin 512) (n : Fin 2048) (o : Fin 6) (ch : Fin 1024) (m : Fin 6144)
    (hr : r.val = r'.val) (hn : 2048 * i.val + n.val = o.val * 1024 + ch.val) (hm : m.val = o.val * 1024 + ch.val) :
    tP p x i r n + p.b m = proj p (x r') (at6 o ch) := by
  have e1 : (⟨2048 * i.val + n.val, by omega⟩ : Fin 6144) = at6 o ch := Fin.ext hn
  have e2 : m = at6 o ch := Fin.ext hm
  have e3 : r = r' := Fin.ext hr
  unfold tP proj
  rw [e1, e2, e3]

/-- The gated linear unit at a row of the tile, as the kernel computes it, is the convolution's input there. -/
theorem glu_at (p : Par) (x : Fin 512 → Row) (halo : Fin 8 → Fin 32 → Fin 128 → EReal) (r r' : Fin 512) (n n' : Fin 2048) (m m' : Fin 6144)
    (c : Fin 8) (q : Fin 544) (l : Fin 128) (hr : q.val = 32 + r.val) (hr' : q.val = 32 + r'.val) (hn : n.val = 128 * c.val + l.val)
    (hm : m.val = 128 * c.val + l.val) (hn' : n'.val = 1024 + 128 * c.val + l.val) (hm' : m'.val = 1024 + 128 * c.val + l.val) :
    (tP p x 0 r n + p.b m) * (cHalf * Ideal.tanh (cHalf * (tP p x 0 r' n' + p.b m')) + cHalf) = tA p x halo c q l := by
  unfold tA
  rw [dif_neg (by omega), sig_eq, proj_at p x 0 r ⟨q.val - 32, by omega⟩ n 0 ⟨128 * c.val + l.val, by omega⟩ m (by simp only; omega)
    (by simp only [Fin.val_zero]; omega) (by simp only [Fin.val_zero]; omega), proj_at p x 0 r' ⟨q.val - 32, by omega⟩ n' 1 ⟨128 * c.val + l.val, by omega⟩ m' (by simp only; omega)
    (by simp only [Fin.val_zero, Fin.val_one]; omega) (by simp only [Fin.val_one]; omega)]
  rfl

/-- The carried rows are what the tile before left. -/
theorem halo_at (p : Par) (x : Fin 512 → Row) (halo : Fin 8 → Fin 32 → Fin 128 → EReal) (c : Fin 8) (q : Fin 544) (l : Fin 128) (i : Fin 8)
    (j : Fin 32) (k : Fin 128) (hc : c.val = i.val) (hq : q.val = j.val) (hl : l.val = k.val) : halo i j k = tA p x halo c q l := by
  unfold tA
  rw [dif_pos (by omega), Fin.ext hc, Fin.ext hl]
  congr 1
  exact Fin.ext hq.symm

end Cert.Mix
-- ==== Proof.Mix.Conv.lean ====
/- The convolution's 32 tiles, at a first tile of a sequence and at a later one. -/
module

public import proofs.«01_k».proof.Proof.Gen.KernelIdeal.Frame.RunA
public import proofs.«01_k».proof.Proof.Gen.KernelIdeal.Frame.RunB
public import proofs.«01_k».proof.Proof.Mix.Pay
public import proofs.«01_k».proof.Proof.Mix.Off
public import Idealize.ShloMosaic.Lib.Tactic.RunNames

@[expose] public section

noncomputable section

namespace Cert.Mix

open Idealize.ShloMosaic Cert.KernelIdeal Cert.KernelIdeal.Gen

variable (c : Dev nD)
  (arg2 : Memref sig .tc .vmem S1x512x1024 .f32) (harg2 : arg2.IsWhole)
  (arg3 : Memref sig .tc .vmem S1x1024 .f32) (harg3 : arg3.IsWhole)
  (arg4 : Memref sig .tc .vmem S1024x6144 .bf16) (harg4 : arg4.IsWhole)
  (arg5 : Memref sig .tc .vmem S1x6144 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S128x8 .f32) (harg15 : arg15.IsWhole)
  (arg16 : Memref sig .tc .vmem S1024x1024 .bf16) (harg16 : arg16.IsWhole)
  (arg17 : Memref sig .tc .vmem S1x1024 .f32) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S64x1024 .bf16) (harg21 : arg21.IsWhole)
  (arg22 : Memref sig .tc .vmem S64x1 .f32) (harg22 : arg22.IsWhole)
  (arg23 : Memref sig .tc .vmem S512x512 .bf16) (harg23 : arg23.IsWhole)
  (arg24 : Memref sig .tc .vmem S1x512x1024 .f32) (harg24 : arg24.IsWhole)
  (arg25 : Memref sig .tc .vmem S1x512x1024 .bf16) (harg25 : arg25.IsWhole)
  (arg26 : Memref sig .tc .vmem S1x8x512 .f32) (harg26 : arg26.IsWhole)
  (arg27 : Memref sig .tc .vmem S1x32x128 .f32) (harg27 : arg27.IsWhole)
  (arg28 : Memref sig .tc .vmem S512x1024 .bf16) (harg28 : arg28.IsWhole)
  (arg29 : Memref sig .tc .vmem S512x2048 .f32) (harg29 : arg29.IsWhole)
  (arg30 : Memref sig .tc .vmem S512x2048 .f32) (harg30 : arg30.IsWhole)
  (arg31 : Memref sig .tc .vmem S512x2048 .f32) (harg31 : arg31.IsWhole)
  (arg32 : Memref sig .tc .vmem S8x544x128 .f32) (harg32 : arg32.IsWhole)
  (arg33 : Memref sig .tc .vmem S512x1024 .bf16) (harg33 : arg33.IsWhole)
  (arg34 : Memref sig .tc .vmem S512x1024 .f32) (harg34 : arg34.IsWhole)
  (arg35 : Memref sig .tc .vmem S512x1024 .f32) (harg35 : arg35.IsWhole)
  (arg36 : Memref sig .tc .vmem S512x1024 .f32) (harg36 : arg36.IsWhole)
  (arg37 : Memref sig .tc .vmem S512x1024 .bf16) (harg37 : arg37.IsWhole)
  (x0 : Vec Ideal S1x512x1024 .f32)
  (x1 : Vec Ideal S1x1024 .f32)
  (x2 : Vec Ideal S1024x6144 .bf16)
  (x3 : Vec Ideal S1x6144 .f32)
  (x4 : Vec Ideal S31x1024 .f32)
  (x5 : Vec Ideal S1x1024 .f32)
  (x6 : Vec Ideal S1x1024 .f32)
  (x7 : Vec Ideal S1x1024 .f32)
  (x8 : Vec Ideal S1024x1024 .bf16)
  (x9 : Vec Ideal S1x1024 .f32)
  (x10 : Vec Ideal S1x1024 .f32)
  (x11 : Vec Ideal S1x1024 .f32)
  (x12 : Vec Ideal S8x128x128 .f32)
  (x13 : Vec Ideal S128x8 .f32)
  (x14 : Vec Ideal S1024x1024 .bf16)
  (x15 : Vec Ideal S1x1024 .f32)
  (x16 : Vec Ideal S1024x1024 .bf16)
  (x17 : Vec Ideal S1x1024 .f32)
  (x18 : Vec Ideal S1x1024 .f32)
  (x19 : Vec Ideal S64x1024 .bf16)
  (x20 : Vec Ideal S64x1 .f32)
  (x21 : Vec Ideal S512x512 .bf16)
  (xs4 : Vec Ideal S8x544x128 .f32)

set_option maxHeartbeats 8000000 in
/-- Each of the newest 32 stores of the projection's first buffer holds a tile of the convolution of the array `a`, where the
    gated rows' buffer holds `a`. -/
theorem conv_tiles (a : Fin 8 → Fin 544 → Fin 128 → EReal) :
    (View.canon (kernelRun0_A.sl.HS4_9 (F := Ideal) c arg2 harg2 arg3 harg3 arg4 harg4 arg5 harg5 arg28 arg29 x0 x1 x2 x3) = arr3 a → View.PiecesOf (arr2 (tC (tp x1 x2 x3 x4 x5 x6 x7 x8 x9 x10 x11 x12 x13 x14 x15 x16 x17 x18) a)) ((kernelRun0_A.sl.HS1_36 (F := Ideal) c arg2 harg2 arg3 harg3 arg4 harg4 arg5 harg5 arg6 harg6 arg7 harg7 arg28 arg29 arg32 x0 x1 x2 x3 x4 x5).take 32))
    ∧ (View.canon (kernelRun0_B.sl.HS4_9 (F := Ideal) c arg2 harg2 arg3 harg3 arg4 harg4 arg5 harg5 arg28 arg29 arg32 harg32 x0 x1 x2 x3 xs4) = arr3 a → View.PiecesOf (arr2 (tC (tp x1 x2 x3 x4 x5 x6 x7 x8 x9 x10 x11 x12 x13 x14 x15 x16 x17 x18) a)) ((kernelRun0_B.sl.HS1_36 (F := Ideal) c arg2 harg2 arg3 harg3 arg4 harg4 arg5 harg5 arg6 harg6 arg7 harg7 arg28 arg29 arg32 harg32 x0 x1 x2 x3 x4 x5 xs4).take 32)) := by
  constructor <;> intro hA
  all_goals
    repeat' (first | refine cons2 (fun i l => ?_) ?_ | exact trivial)
    all_goals
      sl_unfold_run_values
      simp only [readAll3 _ _ _ hA, readAt2]
      simp only [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653]
      pointwise
      simp only [arr2_ix2, arr3_ix3]
      first
        | refine Eq.trans ?_ (tC_at _ _ 0 _ l _ (by first | rfl | (simp only; omega))).symm
        | refine Eq.trans ?_ (tC_at _ _ 1 _ l _ (by first | rfl | (simp only; omega))).symm
        | refine Eq.trans ?_ (tC_at _ _ 2 _ l _ (by first | rfl | (simp only; omega))).symm
        | refine Eq.trans ?_ (tC_at _ _ 3 _ l _ (by first | rfl | (simp only; omega))).symm
        | refine Eq.trans ?_ (tC_at _ _ 4 _ l _ (by first | rfl | (simp only; omega))).symm
        | refine Eq.trans ?_ (tC_at _ _ 5 _ l _ (by first | rfl | (simp only; omega))).symm
        | refine Eq.trans ?_ (tC_at _ _ 6 _ l _ (by first | rfl | (simp only; omega))).symm
        | refine Eq.trans ?_ (tC_at _ _ 7 _ l _ (by first | rfl | (simp only; omega))).symm
      refine Eq.trans ?_ (chain31 _ _)
      repeat' refine congrArg₂ (· + ·) ?_ ?_
      all_goals first
        | (refine tap_leaf _ _ ?_ ?_ ?_ ?_ ?_ <;> first | rfl | (simp only; omega) | (simp; done) | (simp; omega))
        | (refine bias_leaf _ ?_; first | rfl | (simp only; omega) | (simp; done) | (simp; omega))

/-- The convolution's tiles and the buffer's right half cover it. -/
theorem conv_cover : (∀ y, ∃ p ∈ (⟨Rect.unit (s := S512x2048) ![0, 1024] ![512, 1024] (by decide), fun _ => 0⟩ : View.Piece (Elt Ideal) S512x2048 .f32) :: (kernelRun0_A.sl.HS1_36 (F := Ideal) c arg2 harg2 arg3 harg3 arg4 harg4 arg5 harg5 arg6 harg6 arg7 harg7 arg28 arg29 arg32 x0 x1 x2 x3 x4 x5).take 32, y ∈ p.1.set)
    ∧ (∀ y, ∃ p ∈ (⟨Rect.unit (s := S512x2048) ![0, 1024] ![512, 1024] (by decide), fun _ => 0⟩ : View.Piece (Elt Ideal) S512x2048 .f32) :: (kernelRun0_B.sl.HS1_36 (F := Ideal) c arg2 harg2 arg3 harg3 arg4 harg4 arg5 harg5 arg6 harg6 arg7 harg7 arg28 arg29 arg32 harg32 x0 x1 x2 x3 x4 x5 xs4).take 32, y ∈ p.1.set) :=
  ⟨View.cover_of_tiledBy _ ![128, 128] (by sl_kernel_rfl), View.cover_of_tiledBy _ ![128, 128] (by sl_kernel_rfl)⟩

/-- The left half of the projection's first buffer holds the convolution. -/
theorem conv_left (a : Fin 8 → Fin 544 → Fin 128 → EReal) (r : Fin 512) (n : Fin 2048) (hn : n.val < 1024) :
    (View.canon (kernelRun0_A.sl.HS4_9 (F := Ideal) c arg2 harg2 arg3 harg3 arg4 harg4 arg5 harg5 arg28 arg29 x0 x1 x2 x3) = arr3 a → View.canon (kernelRun0_A.sl.HS1_36 (F := Ideal) c arg2 harg2 arg3 harg3 arg4 harg4 arg5 harg5 arg6 harg6 arg7 harg7 arg28 arg29 arg32 x0 x1 x2 x3 x4 x5) (ix2 r n) = tC (tp x1 x2 x3 x4 x5 x6 x7 x8 x9 x10 x11 x12 x13 x14 x15 x16 x17 x18) a r n)
    ∧ (View.canon (kernelRun0_B.sl.HS4_9 (F := Ideal) c arg2 harg2 arg3 harg3 arg4 harg4 arg5 harg5 arg28 arg29 arg32 harg32 x0 x1 x2 x3 xs4) = arr3 a → View.canon (kernelRun0_B.sl.HS1_36 (F := Ideal) c arg2 harg2 arg3 harg3 arg4 harg4 arg5 harg5 arg6 harg6 arg7 harg7 arg28 arg29 arg32 harg32 x0 x1 x2 x3 x4 x5 xs4) (ix2 r n) = tC (tp x1 x2 x3 x4 x5 x6 x7 x8 x9 x10 x11 x12 x13 x14 x15 x16 x17 x18) a r n) := by
  have hy : (ix2 r n : S512x2048.Idx) ∉ (Rect.unit (s := S512x2048) ![0, 1024] ![512, 1024] (by decide)).set := fun h => by
    have h1 := ((Rect.mem_set_unit.mp h) 1).1
    have h2 : (1024 : ℕ) ≤ n.val := h1
    omega
  constructor <;> intro hA
  · exact canon_top 32 (arr2 (tC (tp x1 x2 x3 x4 x5 x6 x7 x8 x9 x10 x11 x12 x13 x14 x15 x16 x17 x18) a)) _ _ ((conv_tiles (harg32 := harg32) (xs4 := xs4) (a := a) ..).1 hA) (conv_cover (harg32 := harg32) (xs4 := xs4) ..).1 _ hy
  · exact canon_top 32 (arr2 (tC (tp x1 x2 x3 x4 x5 x6 x7 x8 x9 x10 x11 x12 x13 x14 x15 x16 x17 x18) a)) _ _ ((conv_tiles (a := a) ..).2 hA) (conv_cover ..).2 _ hy

end Cert.Mix
-- ==== Proof.Mix.CaseA.lean ====
/- What the scratch buffers that no token of an earlier tile reaches hold, at a sequence's first tile. -/
module

public import proofs.«01_k».proof.Proof.Gen.KernelIdeal.Frame.RunA
public import proofs.«01_k».proof.Proof.Mix.Pay
public import proofs.«01_k».proof.Proof.Mix.Off
public import Idealize.ShloMosaic.Lib.Tactic.RunNames

@[expose] public section

noncomputable section

namespace Cert.Mix

open Idealize.ShloMosaic Cert.KernelIdeal Cert.KernelIdeal.Gen

variable (c : Dev nD)
  (arg2 : Memref sig .tc .vmem S1x512x1024 .f32) (harg2 : arg2.IsWhole)
  (arg3 : Memref sig .tc .vmem S1x1024 .f32) (harg3 : arg3.IsWhole)
  (arg4 : Memref sig .tc .vmem S1024x6144 .bf16) (harg4 : arg4.IsWhole)
  (arg5 : Memref sig .tc .vmem S1x6144 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S128x8 .f32) (harg15 : arg15.IsWhole)
  (arg16 : Memref sig .tc .vmem S1024x1024 .bf16) (harg16 : arg16.IsWhole)
  (arg17 : Memref sig .tc .vmem S1x1024 .f32) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S64x1024 .bf16) (harg21 : arg21.IsWhole)
  (arg22 : Memref sig .tc .vmem S64x1 .f32) (harg22 : arg22.IsWhole)
  (arg23 : Memref sig .tc .vmem S512x512 .bf16) (harg23 : arg23.IsWhole)
  (arg24 : Memref sig .tc .vmem S1x512x1024 .f32) (harg24 : arg24.IsWhole)
  (arg25 : Memref sig .tc .vmem S1x512x1024 .bf16) (harg25 : arg25.IsWhole)
  (arg26 : Memref sig .tc .vmem S1x8x512 .f32) (harg26 : arg26.IsWhole)
  (arg27 : Memref sig .tc .vmem S1x32x128 .f32) (harg27 : arg27.IsWhole)
  (arg28 : Memref sig .tc .vmem S512x1024 .bf16) (harg28 : arg28.IsWhole)
  (arg29 : Memref sig .tc .vmem S512x2048 .f32) (harg29 : arg29.IsWhole)
  (arg30 : Memref sig .tc .vmem S512x2048 .f32) (harg30 : arg30.IsWhole)
  (arg31 : Memref sig .tc .vmem S512x2048 .f32) (harg31 : arg31.IsWhole)
  (arg32 : Memref sig .tc .vmem S8x544x128 .f32) (harg32 : arg32.IsWhole)
  (arg33 : Memref sig .tc .vmem S512x1024 .bf16) (harg33 : arg33.IsWhole)
  (arg34 : Memref sig .tc .vmem S512x1024 .f32) (harg34 : arg34.IsWhole)
  (arg35 : Memref sig .tc .vmem S512x1024 .f32) (harg35 : arg35.IsWhole)
  (arg36 : Memref sig .tc .vmem S512x1024 .f32) (harg36 : arg36.IsWhole)
  (arg37 : Memref sig .tc .vmem S512x1024 .bf16) (harg37 : arg37.IsWhole)
  (x0 : Vec Ideal S1x512x1024 .f32)
  (x1 : Vec Ideal S1x1024 .f32)
  (x2 : Vec Ideal S1024x6144 .bf16)
  (x3 : Vec Ideal S1x6144 .f32)
  (x4 : Vec Ideal S31x1024 .f32)
  (x5 : Vec Ideal S1x1024 .f32)
  (x6 : Vec Ideal S1x1024 .f32)
  (x7 : Vec Ideal S1x1024 .f32)
  (x8 : Vec Ideal S1024x1024 .bf16)
  (x9 : Vec Ideal S1x1024 .f32)
  (x10 : Vec Ideal S1x1024 .f32)
  (x11 : Vec Ideal S1x1024 .f32)
  (x12 : Vec Ideal S8x128x128 .f32)
  (x13 : Vec Ideal S128x8 .f32)
  (x14 : Vec Ideal S1024x1024 .bf16)
  (x15 : Vec Ideal S1x1024 .f32)
  (x16 : Vec Ideal S1024x1024 .bf16)
  (x17 : Vec Ideal S1x1024 .f32)
  (x18 : Vec Ideal S1x1024 .f32)
  (x19 : Vec Ideal S64x1024 .bf16)
  (x20 : Vec Ideal S64x1 .f32)
  (x21 : Vec Ideal S512x512 .bf16)

/-- The normed rows. -/
theorem A_HS0 : View.canon (kernelRun0_A.sl.HS0_1 (F := Ideal) c arg2 harg2 arg3 harg3 x0 x1) = arr2 (tH (tp x1 x2 x3 x4 x5 x6 x7 x8 x9 x10 x11 x12 x13 x14 x15 x16 x17 x18) (tx x0)) := by
  refine canon_full _ _ (cons2 (fun i l => ?_) trivial) (View.cover_of_tiledL _ S512x1024.size (by sl_kernel_rfl))
  rw [pay3_at, readAt2, readAt3]
  simp only [o1, o2, tH_at]
  rfl

/-- The first third of the input projection, without its bias. -/
theorem A_HS1 : View.canon (kernelRun0_A.sl.HS1_4 (F := Ideal) c arg2 harg2 arg3 harg3 arg4 harg4 arg28 x0 x1 x2) = arr2 (tP (tp x1 x2 x3 x4 x5 x6 x7 x8 x9 x10 x11 x12 x13 x14 x15 x16 x17 x18) (tx x0) 0) := by
  have h0 := A_HS0 c arg2 harg2 arg3 harg3 x0 x1 x2 x3 x4 x5 x6 x7 x8 x9 x10 x11 x12 x13 x14 x15 x16 x17 x18
  refine canon_full _ _ (cons2 (fun i l => ?_) (cons2 (fun i l => ?_) (cons2 (fun i l => ?_) (cons2 (fun i l => ?_) trivial))))
    (View.cover_of_tiledL _ S512x512.size (by sl_kernel_rfl))
  all_goals
    sl_unfold_run_values
    simp only [readAll2 _ _ _ h0, readAt2]
    simp only [k0_pay4, k0_pay5, k0_pay6, k0_pay7, k0_pay8]
    pointwise
    simp only [arr2_ix2]
    refine tP_at _ _ _ _ _ x2 (fun _ _ => rfl) _ ?_
    first | rfl | (simp only; omega) | (simp; done) | (simp; omega)

/-- The second third of the input projection, without its bias. -/
theorem A_HS2 : View.canon (kernelRun0_A.sl.HS2_4 (F := Ideal) c arg2 harg2 arg3 harg3 arg4 harg4 arg28 x0 x1 x2) = arr2 (tP (tp x1 x2 x3 x4 x5 x6 x7 x8 x9 x10 x11 x12 x13 x14 x15 x16 x17 x18) (tx x0) 1) := by
  have h0 := A_HS0 c arg2 harg2 arg3 harg3 x0 x1 x2 x3 x4 x5 x6 x7 x8 x9 x10 x11 x12 x13 x14 x15 x16 x17 x18
  refine canon_full _ _ (cons2 (fun i l => ?_) (cons2 (fun i l => ?_) (cons2 (fun i l => ?_) (cons2 (fun i l => ?_) trivial))))
    (View.cover_of_tiledL _ S512x512.size (by sl_kernel_rfl))
  all_goals
    sl_unfold_run_values
    simp only [readAll2 _ _ _ h0, readAt2]
    simp only [k0_pay18, k0_pay19, k0_pay20, k0_pay21, k0_pay22]
    pointwise
    simp only [arr2_ix2]
    refine tP_at _ _ _ _ _ x2 (fun _ _ => rfl) _ ?_
    first | rfl | (simp only; omega) | (simp; done) | (simp; omega)

/-- The last third of the input projection, without its bias. -/
theorem A_HS3 : View.canon (kernelRun0_A.sl.HS3_4 (F := Ideal) c arg2 harg2 arg3 harg3 arg4 harg4 arg28 x0 x1 x2) = arr2 (tP (tp x1 x2 x3 x4 x5 x6 x7 x8 x9 x10 x11 x12 x13 x14 x15 x16 x17 x18) (tx x0) 2) := by
  have h0 := A_HS0 c arg2 harg2 arg3 harg3 x0 x1 x2 x3 x4 x5 x6 x7 x8 x9 x10 x11 x12 x13 x14 x15 x16 x17 x18
  refine canon_full _ _ (cons2 (fun i l => ?_) (cons2 (fun i l => ?_) (cons2 (fun i l => ?_) (cons2 (fun i l => ?_) trivial))))
    (View.cover_of_tiledL _ S512x512.size (by sl_kernel_rfl))
  all_goals
    sl_unfold_run_values
    simp only [readAll2 _ _ _ h0, readAt2]
    simp only [k0_pay23, k0_pay24, k0_pay25, k0_pay26, k0_pay27]
    pointwise
    simp only [arr2_ix2]
    refine tP_at _ _ _ _ _ x2 (fun _ _ => rfl) _ ?_
    first | rfl | (simp only; omega) | (simp; done) | (simp; omega)

/-- The first half of the spatial gating. -/
theorem A_HS8 : View.canon (kernelRun0_A.sl.HS8_1 (F := Ideal) c arg2 harg2 arg3 harg3 arg4 harg4 arg5 harg5 arg28 arg30 x0 x1 x2 x3) = arr2 fun r => uu (tp x1 x2 x3 x4 x5 x6 x7 x8 x9 x10 x11 x12 x13 x14 x15 x16 x17 x18) (tx x0 r) := by
  have h2 := A_HS2 c arg2 harg2 arg3 harg3 arg4 harg4 arg28 x0 x1 x2 x3 x4 x5 x6 x7 x8 x9 x10 x11 x12 x13 x14 x15 x16 x17 x18
  refine canon_full _ _ (cons2 (fun i l => ?_) trivial) (View.cover_of_tiledL _ S512x1024.size (by sl_kernel_rfl))
  sl_unfold_run_values
  simp only [readAll2 _ _ _ h2, readAt2]
  refine (pay659_at _ _ _ _).trans ?_
  simp only [arr2_ix2]
  refine congrArg gelu (proj_at _ _ _ _ _ _ _ _ _ ?_ ?_ ?_)
  all_goals first | rfl | (simp [o2, o3, o4, at6]; done) | (simp [o2, o3, o4, at6]; omega)

/-- The second half of the spatial gating, normed. -/
theorem A_HS9 : View.canon (kernelRun0_A.sl.HS9_1 (F := Ideal) c arg2 harg2 arg3 harg3 arg4 harg4 arg5 harg5 arg12 harg12 arg13 harg13 arg28 arg30 x0 x1 x2 x3 x10 x11) = arr2 fun r => vv (tp x1 x2 x3 x4 x5 x6 x7 x8 x9 x10 x11 x12 x13 x14 x15 x16 x17 x18) (tx x0 r) := by
  have h2 := A_HS2 c arg2 harg2 arg3 harg3 arg4 harg4 arg28 x0 x1 x2 x3 x4 x5 x6 x7 x8 x9 x10 x11 x12 x13 x14 x15 x16 x17 x18
  refine canon_full _ _ (cons2 (fun i l => ?_) trivial) (View.cover_of_tiledL _ S512x1024.size (by sl_kernel_rfl))
  sl_unfold_run_values
  simp only [readAll2 _ _ _ h2, readAt2]
  refine (pay664_at _ _ _ _ _ _).trans ?_
  simp only [arr2_ix2]
  refine (congrArg (fun f : Row => ln f _ _ _) (funext fun k => congrArg gelu (proj_at _ _ _ _ ⟨i.val, i.isLt⟩ _ 3 k _ ?_ ?_ ?_))).trans ?_
  on_goal 4 => simp [o2, vv, tp, row]
  all_goals first | rfl | (simp [o2, o3, o4, at6]; done) | (simp [o2, o3, o4, at6]; omega)

/-- The convolution's input: 32 rows of zeros, and the tile's own rows. -/
theorem A_HS4 : View.canon (kernelRun0_A.sl.HS4_9 (F := Ideal) c arg2 harg2 arg3 harg3 arg4 harg4 arg5 harg5 arg28 arg29 x0 x1 x2 x3) = arr3 (tA (tp x1 x2 x3 x4 x5 x6 x7 x8 x9 x10 x11 x12 x13 x14 x15 x16 x17 x18) (tx x0) fun _ _ _ => 0) := by
  have h1 := A_HS1 c arg2 harg2 arg3 harg3 arg4 harg4 arg28 x0 x1 x2 x3 x4 x5 x6 x7 x8 x9 x10 x11 x12 x13 x14 x15 x16 x17 x18
  refine canon_full _ _ ?_ (View.cover_of_tiledBy _ ![1, 32, 128] (by sl_kernel_rfl))
  repeat' (first | refine cons3 (fun i l d => ?_) ?_ | exact trivial)
  all_goals
    sl_unfold_run_values
    try simp only [readAll2 _ _ _ h1, readAt2]
    simp only [k0_pay1, k0_pay9, k0_pay10, k0_pay11, k0_pay12, k0_pay13, k0_pay14, k0_pay15, k0_pay16, k0_pay17]
    pointwise
    first
      | refine glu_at _ (tx x0) _ _ _ _ _ _ _ _ _ _ ?_ ?_ ?_ ?_ ?_ ?_ <;> first | rfl | (simp [o3, o4, o5, o6, o7, o8, o9, o10, o11, o12]; done) | (simp [o3, o4, o5, o6, o7, o8, o9, o10, o11, o12]; omega)
      | refine halo_at _ (tx x0) (fun _ _ _ => 0) _ _ _ i l d ?_ ?_ ?_ <;> first | rfl | (simp [o3, o4, o5, o6, o7, o8, o9, o10, o11, o12]; done) | (simp [o3, o4, o5, o6, o7, o8, o9, o10, o11, o12]; omega)

end Cert.Mix
-- ==== Proof.Mix.CaseB.lean ====
/- What the scratch buffers hold at a later tile of a sequence: those that no earlier tile reaches hold what they hold at a first
   tile, and the convolution's input begins with the rows carried in. -/
module

public import proofs.«01_k».proof.Proof.Gen.KernelIdeal.Frame.RunB
public import proofs.«01_k».proof.Proof.Mix.CaseA

@[expose] public section

noncomputable section

namespace Cert.Mix

open Idealize.ShloMosaic Cert.KernelIdeal Cert.KernelIdeal.Gen

variable (c : Dev nD)
  (arg2 : Memref sig .tc .vmem S1x512x1024 .f32) (harg2 : arg2.IsWhole)
  (arg3 : Memref sig .tc .vmem S1x1024 .f32) (harg3 : arg3.IsWhole)
  (arg4 : Memref sig .tc .vmem S1024x6144 .bf16) (harg4 : arg4.IsWhole)
  (arg5 : Memref sig .tc .vmem S1x6144 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S128x8 .f32) (harg15 : arg15.IsWhole)
  (arg16 : Memref sig .tc .vmem S1024x1024 .bf16) (harg16 : arg16.IsWhole)
  (arg17 : Memref sig .tc .vmem S1x1024 .f32) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S64x1024 .bf16) (harg21 : arg21.IsWhole)
  (arg22 : Memref sig .tc .vmem S64x1 .f32) (harg22 : arg22.IsWhole)
  (arg23 : Memref sig .tc .vmem S512x512 .bf16) (harg23 : arg23.IsWhole)
  (arg24 : Memref sig .tc .vmem S1x512x1024 .f32) (harg24 : arg24.IsWhole)
  (arg25 : Memref sig .tc .vmem S1x512x1024 .bf16) (harg25 : arg25.IsWhole)
  (arg26 : Memref sig .tc .vmem S1x8x512 .f32) (harg26 : arg26.IsWhole)
  (arg27 : Memref sig .tc .vmem S1x32x128 .f32) (harg27 : arg27.IsWhole)
  (arg28 : Memref sig .tc .vmem S512x1024 .bf16) (harg28 : arg28.IsWhole)
  (arg29 : Memref sig .tc .vmem S512x2048 .f32) (harg29 : arg29.IsWhole)
  (arg30 : Memref sig .tc .vmem S512x2048 .f32) (harg30 : arg30.IsWhole)
  (arg31 : Memref sig .tc .vmem S512x2048 .f32) (harg31 : arg31.IsWhole)
  (arg32 : Memref sig .tc .vmem S8x544x128 .f32) (harg32 : arg32.IsWhole)
  (arg33 : Memref sig .tc .vmem S512x1024 .bf16) (harg33 : arg33.IsWhole)
  (arg34 : Memref sig .tc .vmem S512x1024 .f32) (harg34 : arg34.IsWhole)
  (arg35 : Memref sig .tc .vmem S512x1024 .f32) (harg35 : arg35.IsWhole)
  (arg36 : Memref sig .tc .vmem S512x1024 .f32) (harg36 : arg36.IsWhole)
  (arg37 : Memref sig .tc .vmem S512x1024 .bf16) (harg37 : arg37.IsWhole)
  (x0 : Vec Ideal S1x512x1024 .f32)
  (x1 : Vec Ideal S1x1024 .f32)
  (x2 : Vec Ideal S1024x6144 .bf16)
  (x3 : Vec Ideal S1x6144 .f32)
  (x4 : Vec Ideal S31x1024 .f32)
  (x5 : Vec Ideal S1x1024 .f32)
  (x6 : Vec Ideal S1x1024 .f32)
  (x7 : Vec Ideal S1x1024 .f32)
  (x8 : Vec Ideal S1024x1024 .bf16)
  (x9 : Vec Ideal S1x1024 .f32)
  (x10 : Vec Ideal S1x1024 .f32)
  (x11 : Vec Ideal S1x1024 .f32)
  (x12 : Vec Ideal S8x128x128 .f32)
  (x13 : Vec Ideal S128x8 .f32)
  (x14 : Vec Ideal S1024x1024 .bf16)
  (x15 : Vec Ideal S1x1024 .f32)
  (x16 : Vec Ideal S1024x1024 .bf16)
  (x17 : Vec Ideal S1x1024 .f32)
  (x18 : Vec Ideal S1x1024 .f32)
  (x19 : Vec Ideal S64x1024 .bf16)
  (x20 : Vec Ideal S64x1 .f32)
  (x21 : Vec Ideal S512x512 .bf16)
  (xs4 : Vec Ideal S8x544x128 .f32)

/-- The first third of the input projection, without its bias. -/
theorem B_HS1 : View.canon (kernelRun0_B.sl.HS1_4 (F := Ideal) c arg2 harg2 arg3 harg3 arg4 harg4 arg28 x0 x1 x2) = arr2 (tP (tp x1 x2 x3 x4 x5 x6 x7 x8 x9 x10 x11 x12 x13 x14 x15 x16 x17 x18) (tx x0) 0) := by
  have e : (kernelRun0_B.sl.HS1_4 (F := Ideal) c arg2 harg2 arg3 harg3 arg4 harg4 arg28 x0 x1 x2) = (kernelRun0_A.sl.HS1_4 (F := Ideal) c arg2 harg2 arg3 harg3 arg4 harg4 arg28 x0 x1 x2) := by sl_kernel_rfl
  rw [e]
  exact A_HS1 ..

/-- The first half of the spatial gating. -/
theorem B_HS8 : View.canon (kernelRun0_B.sl.HS8_1 (F := Ideal) c arg2 harg2 arg3 harg3 arg4 harg4 arg5 harg5 arg28 arg30 x0 x1 x2 x3) = arr2 fun r => uu (tp x1 x2 x3 x4 x5 x6 x7 x8 x9 x10 x11 x12 x13 x14 x15 x16 x17 x18) (tx x0 r) := by
  have e : (kernelRun0_B.sl.HS8_1 (F := Ideal) c arg2 harg2 arg3 harg3 arg4 harg4 arg5 harg5 arg28 arg30 x0 x1 x2 x3) = (kernelRun0_A.sl.HS8_1 (F := Ideal) c arg2 harg2 arg3 harg3 arg4 harg4 arg5 harg5 arg28 arg30 x0 x1 x2 x3) := by sl_kernel_rfl
  rw [e]
  exact A_HS8 ..

/-- The second half of the spatial gating, normed. -/
theorem B_HS9 : View.canon (kernelRun0_B.sl.HS9_1 (F := Ideal) c arg2 harg2 arg3 harg3 arg4 harg4 arg5 harg5 arg12 harg12 arg13 harg13 arg28 arg30 x0 x1 x2 x3 x10 x11) = arr2 fun r => vv (tp x1 x2 x3 x4 x5 x6 x7 x8 x9 x10 x11 x12 x13 x14 x15 x16 x17 x18) (tx x0 r) := by
  have e : (kernelRun0_B.sl.HS9_1 (F := Ideal) c arg2 harg2 arg3 harg3 arg4 harg4 arg5 harg5 arg12 harg12 arg13 harg13 arg28 arg30 x0 x1 x2 x3 x10 x11) = (kernelRun0_A.sl.HS9_1 (F := Ideal) c arg2 harg2 arg3 harg3 arg4 harg4 arg5 harg5 arg12 harg12 arg13 harg13 arg28 arg30 x0 x1 x2 x3 x10 x11) := by sl_kernel_rfl
  rw [e]
  exact A_HS9 ..

/-- The convolution's input: the 32 rows carried in, and the tile's own rows. -/
theorem B_HS4 : View.canon (kernelRun0_B.sl.HS4_9 (F := Ideal) c arg2 harg2 arg3 harg3 arg4 harg4 arg5 harg5 arg28 arg29 arg32 harg32 x0 x1 x2 x3 xs4) = arr3 (tA (tp x1 x2 x3 x4 x5 x6 x7 x8 x9 x10 x11 x12 x13 x14 x15 x16 x17 x18) (tx x0) fun c q l => xs4 (ix3 c ⟨512 + q.val, by omega⟩ l)) := by
  have h1 : View.canon (kernelRun0_B.sl.HS1_4 (F := Ideal) c arg2 harg2 arg3 harg3 arg4 harg4 arg28 x0 x1 x2) = arr2 (tP (tp x1 x2 x3 x4 x5 x6 x7 x8 x9 x10 x11 x12 x13 x14 x15 x16 x17 x18) (tx x0) 0) := B_HS1 ..
  refine canon_full _ _ ?_ (View.cover_of_tiledBy _ ![1, 32, 128] (by sl_kernel_rfl))
  repeat' (first | refine cons3 (fun i l d => ?_) ?_ | exact trivial)
  all_goals
    sl_unfold_run_values
    simp only [readAll2 _ _ _ h1, readAt2, readAt3]
    simp only [k0_pay2, k0_pay9, k0_pay10, k0_pay11, k0_pay12, k0_pay13, k0_pay14, k0_pay15, k0_pay16, k0_pay17]
    pointwise
    first
      | refine glu_at _ (tx x0) _ _ _ _ _ _ _ _ _ _ ?_ ?_ ?_ ?_ ?_ ?_ <;> first | rfl | (simp [o3, o4, o5, o6, o7, o8, o9, o10, o11, o12]; done) | (simp [o3, o4, o5, o6, o7, o8, o9, o10, o11, o12]; omega)
      | (refine Eq.trans ?_ (halo_at _ (tx x0) (fun c q l => xs4 (ix3 c ⟨512 + q.val, by omega⟩ l)) _ _ _ i l d ?_ ?_ ?_)
         · simp
         all_goals first | rfl | (simp; done) | (simp; omega))

end Cert.Mix
-- ==== Proof.Mix.Gate.lean ====
/- The spatial gating's tiles of 128 rows by 128 channels. -/
module

public import proofs.«01_k».proof.Proof.Mix.CaseA
public import proofs.«01_k».proof.Proof.Mix.CaseB
public import proofs.«01_k».proof.Proof.Gen.KernelIdeal.Frame.RunB

@[expose] public section

noncomputable section

namespace Cert.Mix

open Idealize.ShloMosaic Cert.KernelIdeal Cert.KernelIdeal.Gen

/-- The newest stores of a buffer, where they cover it and hold an array's entries, leave that array. -/
theorem canon_take {S : Shape} {e : EltTy} (n : ℕ) (G : S.Idx → Elt Ideal e) (L : List (View.Piece (Elt Ideal) S e))
    (h : View.PiecesOf G (L.take n)) (hc : ∀ y, ∃ p ∈ L.take n, y ∈ p.1.set) : View.canon L = G := by
  funext y
  have := View.canon_append_of_piecesOf G (L.drop n) (L.take n) h y (hc y)
  rwa [List.take_append_drop] at this

/-- A row's spatial gating: the first half times the mixing of the block of 128 rows that it lies in. -/
def tS (p : Par) (x : Fin 512 → Row) (r : Fin 512) : Row := fun ch =>
  uu p (x r) ch * sv p (fun k => vv p (tB x r k)) (tQ r) ch

/-- The spatial gating at an entry of a tile, as the kernel computes it. -/
theorem tS_at (p : Par) (x : Fin 512 → Row) (h : Fin 8) (i : Fin 128) (r r' : Fin 512) (ch ch' ch2 : Fin 1024) (rk : Fin 128 → Fin 512)
    (hr : r'.val = r.val) (hc : ch'.val = ch.val) (hc2 : ch2.val = ch.val) (hi : i.val = r.val % 128) (hh : h.val = ch.val / 128)
    (hk : ∀ k : Fin 128, (rk k).val = r.val / 128 * 128 + k.val) :
    uu p (x r') ch' * (∑ k, Scalar.select (k0_pay666 k0_pay665 (iota .tc S128x128 32 [1] iota_S128x128_d1_w32) 64#32 (ix2 i k))
        (p.wsg h i k * vv p (x (rk k)) ch2) 0 + p.bsg h i) = tS p x r ch := by
  obtain rfl : r' = r := Fin.ext hr
  obtain rfl : ch' = ch := Fin.ext hc
  obtain rfl : ch2 = ch' := Fin.ext hc2
  obtain rfl : i = tQ r' := Fin.ext hi
  obtain rfl : h = hd ch2 := Fin.ext hh
  unfold tS sv
  refine congrArg (fun z => uu p (x r') ch2 * (z + p.bsg (hd ch2) (tQ r'))) (Finset.sum_congr rfl fun k _ => ?_)
  rw [pay666_at]
  have e : x (rk k) = tB x r' k := congrArg x (Fin.ext (hk k))
  rw [e]
  by_cases hm : k.val / 64 ≤ (tQ r').val / 64
  · simp [hm, Scalar.select]
  · simp [hm, Scalar.select]

variable (c : Dev nD)
  (arg2 : Memref sig .tc .vmem S1x512x1024 .f32) (harg2 : arg2.IsWhole)
  (arg3 : Memref sig .tc .vmem S1x1024 .f32) (harg3 : arg3.IsWhole)
  (arg4 : Memref sig .tc .vmem S1024x6144 .bf16) (harg4 : arg4.IsWhole)
  (arg5 : Memref sig .tc .vmem S1x6144 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S128x8 .f32) (harg15 : arg15.IsWhole)
  (arg16 : Memref sig .tc .vmem S1024x1024 .bf16) (harg16 : arg16.IsWhole)
  (arg17 : Memref sig .tc .vmem S1x1024 .f32) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S64x1024 .bf16) (harg21 : arg21.IsWhole)
  (arg22 : Memref sig .tc .vmem S64x1 .f32) (harg22 : arg22.IsWhole)
  (arg23 : Memref sig .tc .vmem S512x512 .bf16) (harg23 : arg23.IsWhole)
  (arg24 : Memref sig .tc .vmem S1x512x1024 .f32) (harg24 : arg24.IsWhole)
  (arg25 : Memref sig .tc .vmem S1x512x1024 .bf16) (harg25 : arg25.IsWhole)
  (arg26 : Memref sig .tc .vmem S1x8x512 .f32) (harg26 : arg26.IsWhole)
  (arg27 : Memref sig .tc .vmem S1x32x128 .f32) (harg27 : arg27.IsWhole)
  (arg28 : Memref sig .tc .vmem S512x1024 .bf16) (harg28 : arg28.IsWhole)
  (arg29 : Memref sig .tc .vmem S512x2048 .f32) (harg29 : arg29.IsWhole)
  (arg30 : Memref sig .tc .vmem S512x2048 .f32) (harg30 : arg30.IsWhole)
  (arg31 : Memref sig .tc .vmem S512x2048 .f32) (harg31 : arg31.IsWhole)
  (arg32 : Memref sig .tc .vmem S8x544x128 .f32) (harg32 : arg32.IsWhole)
  (arg33 : Memref sig .tc .vmem S512x1024 .bf16) (harg33 : arg33.IsWhole)
  (arg34 : Memref sig .tc .vmem S512x1024 .f32) (harg34 : arg34.IsWhole)
  (arg35 : Memref sig .tc .vmem S512x1024 .f32) (harg35 : arg35.IsWhole)
  (arg36 : Memref sig .tc .vmem S512x1024 .f32) (harg36 : arg36.IsWhole)
  (arg37 : Memref sig .tc .vmem S512x1024 .bf16) (harg37 : arg37.IsWhole)
  (x0 : Vec Ideal S1x512x1024 .f32)
  (x1 : Vec Ideal S1x1024 .f32)
  (x2 : Vec Ideal S1024x6144 .bf16)
  (x3 : Vec Ideal S1x6144 .f32)
  (x4 : Vec Ideal S31x1024 .f32)
  (x5 : Vec Ideal S1x1024 .f32)
  (x6 : Vec Ideal S1x1024 .f32)
  (x7 : Vec Ideal S1x1024 .f32)
  (x8 : Vec Ideal S1024x1024 .bf16)
  (x9 : Vec Ideal S1x1024 .f32)
  (x10 : Vec Ideal S1x1024 .f32)
  (x11 : Vec Ideal S1x1024 .f32)
  (x12 : Vec Ideal S8x128x128 .f32)
  (x13 : Vec Ideal S128x8 .f32)
  (x14 : Vec Ideal S1024x1024 .bf16)
  (x15 : Vec Ideal S1x1024 .f32)
  (x16 : Vec Ideal S1024x1024 .bf16)
  (x17 : Vec Ideal S1x1024 .f32)
  (x18 : Vec Ideal S1x1024 .f32)
  (x19 : Vec Ideal S64x1024 .bf16)
  (x20 : Vec Ideal S64x1 .f32)
  (x21 : Vec Ideal S512x512 .bf16)
  (xs4 : Vec Ideal S8x544x128 .f32)

set_option maxHeartbeats 8000000 in
/-- Each of the newest 32 stores of the gating's buffer holds a tile of the spatial gating. -/
theorem gate_tiles : View.PiecesOf (arr2 (tS (tp x1 x2 x3 x4 x5 x6 x7 x8 x9 x10 x11 x12 x13 x14 x15 x16 x17 x18) (tx x0))) ((kernelRun0_A.sl.HS5_33 (F := Ideal) c arg2 harg2 arg3 harg3 arg4 harg4 arg5 harg5 arg6 harg6 arg7 harg7 arg8 harg8 arg9 harg9 arg12 harg12 arg13 harg13 arg14 harg14 arg15 harg15 arg28 arg29 arg30 arg32 arg36 arg37 x0 x1 x2 x3 x4 x5 x6 x7 x10 x11 x12 x13).take 32)
    ∧ View.PiecesOf (arr2 (tS (tp x1 x2 x3 x4 x5 x6 x7 x8 x9 x10 x11 x12 x13 x14 x15 x16 x17 x18) (tx x0))) ((kernelRun0_B.sl.HS5_33 (F := Ideal) c arg2 harg2 arg3 harg3 arg4 harg4 arg5 harg5 arg6 harg6 arg7 harg7 arg8 harg8 arg9 harg9 arg12 harg12 arg13 harg13 arg14 harg14 arg15 harg15 arg28 arg29 arg30 arg32 harg32 arg36 arg37 x0 x1 x2 x3 x4 x5 x6 x7 x10 x11 x12 x13 xs4).take 32) := by
  have h8 : View.canon (kernelRun0_A.sl.HS8_1 (F := Ideal) c arg2 harg2 arg3 harg3 arg4 harg4 arg5 harg5 arg28 arg30 x0 x1 x2 x3) = arr2 fun r => uu (tp x1 x2 x3 x4 x5 x6 x7 x8 x9 x10 x11 x12 x13 x14 x15 x16 x17 x18) (tx x0 r) := A_HS8 ..
  have h9 : View.canon (kernelRun0_A.sl.HS9_1 (F := Ideal) c arg2 harg2 arg3 harg3 arg4 harg4 arg5 harg5 arg12 harg12 arg13 harg13 arg28 arg30 x0 x1 x2 x3 x10 x11) = arr2 fun r => vv (tp x1 x2 x3 x4 x5 x6 x7 x8 x9 x10 x11 x12 x13 x14 x15 x16 x17 x18) (tx x0 r) := A_HS9 ..
  have g8 : View.canon (kernelRun0_B.sl.HS8_1 (F := Ideal) c arg2 harg2 arg3 harg3 arg4 harg4 arg5 harg5 arg28 arg30 x0 x1 x2 x3) = arr2 fun r => uu (tp x1 x2 x3 x4 x5 x6 x7 x8 x9 x10 x11 x12 x13 x14 x15 x16 x17 x18) (tx x0 r) := B_HS8 ..
  have g9 : View.canon (kernelRun0_B.sl.HS9_1 (F := Ideal) c arg2 harg2 arg3 harg3 arg4 harg4 arg5 harg5 arg12 harg12 arg13 harg13 arg28 arg30 x0 x1 x2 x3 x10 x11) = arr2 fun r => vv (tp x1 x2 x3 x4 x5 x6 x7 x8 x9 x10 x11 x12 x13 x14 x15 x16 x17 x18) (tx x0 r) := B_HS9 ..
  constructor
  all_goals
    repeat' (first | refine cons2 (fun i l => ?_) ?_ | exact trivial)
    all_goals
      sl_unfold_run_values
      simp only [readAll2 _ _ _ h8, readAll2 _ _ _ h9, readAll2 _ _ _ g8, readAll2 _ _ _ g9, readAt2, readAt3]
      simp only [k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716]
      pointwise
      simp only [arr2_ix2, arr3_ix3]
      refine tS_at _ (tx x0) _ i _ _ _ _ _ _ ?_ ?_ ?_ ?_ ?_ ?_
      all_goals first | rfl | (simp only; omega) | (simp; done) | (simp; omega) | (intro k; first | (simp; done) | (simp; omega))

/-- The buffer of the gated products holds the spatial gating, at a first tile and at a later one. -/
theorem gate : View.canon (kernelRun0_A.sl.HS5_33 (F := Ideal) c arg2 harg2 arg3 harg3 arg4 harg4 arg5 harg5 arg6 harg6 arg7 harg7 arg8 harg8 arg9 harg9 arg12 harg12 arg13 harg13 arg14 harg14 arg15 harg15 arg28 arg29 arg30 arg32 arg36 arg37 x0 x1 x2 x3 x4 x5 x6 x7 x10 x11 x12 x13) = arr2 (tS (tp x1 x2 x3 x4 x5 x6 x7 x8 x9 x10 x11 x12 x13 x14 x15 x16 x17 x18) (tx x0)) ∧ View.canon (kernelRun0_B.sl.HS5_33 (F := Ideal) c arg2 harg2 arg3 harg3 arg4 harg4 arg5 harg5 arg6 harg6 arg7 harg7 arg8 harg8 arg9 harg9 arg12 harg12 arg13 harg13 arg14 harg14 arg15 harg15 arg28 arg29 arg30 arg32 harg32 arg36 arg37 x0 x1 x2 x3 x4 x5 x6 x7 x10 x11 x12 x13 xs4) = arr2 (tS (tp x1 x2 x3 x4 x5 x6 x7 x8 x9 x10 x11 x12 x13 x14 x15 x16 x17 x18) (tx x0)) :=
  ⟨canon_take 32 _ _ (gate_tiles (harg32 := harg32) (xs4 := xs4) ..).1 (View.cover_of_tiledBy _ ![128, 128] (by sl_kernel_rfl)),
    canon_take 32 _ _ (gate_tiles ..).2 (View.cover_of_tiledBy _ ![128, 128] (by sl_kernel_rfl))⟩

end Cert.Mix
-- ==== Proof.Mix.Mid.lean ====
/- From the convolution and the spatial gating to the results' blocks, at a first tile of a sequence and at a later one. -/
module

public import proofs.«01_k».proof.Proof.Mix.Conv
public import proofs.«01_k».proof.Proof.Mix.CaseA
public import proofs.«01_k».proof.Proof.Mix.CaseB
public import proofs.«01_k».proof.Proof.Mix.Gate

@[expose] public section

noncomputable section

namespace Cert.Mix

open Idealize.ShloMosaic Cert.KernelIdeal Cert.KernelIdeal.Gen

/-- The gated sum of the two branches at a row of a tile. -/
def tM (p : Par) (a : Fin 8 → Fin 544 → Fin 128 → EReal) (x : Fin 512 → Row) (r : Fin 512) : Row := fun ch =>
  Ideal.logistic (proj p (x r) (at6 4 ch)) * ya p (tT a r) ch
    + Ideal.logistic (proj p (x r) (at6 5 ch)) * (lin (tS p x r) p.wso ch + p.bso ch)

/-- The residual stream after the mixer at a row of a tile. -/
def tX (p : Par) (a : Fin 8 → Fin 544 → Fin 128 → EReal) (x : Fin 512 → Row) (r : Fin 512) : Row := fun n =>
  x r n + lin (tM p a x r) p.wout n + p.bout n

/-- The convolution read back from the left half of its buffer. -/
theorem tC_left (p : Par) (a : Fin 8 → Fin 544 → Fin 128 → EReal) (r r' : Fin 512) (n : Fin 2048) (ch : Fin 1024) (hr : r.val = r'.val)
    (hn : n.val = ch.val) : tC p a r n = conv p (tT a r') ch := by
  obtain rfl : r = r' := Fin.ext hr
  unfold tC
  rw [dif_pos (by omega)]
  exact congrArg _ (Fin.ext hn)

/-- A row times a matrix, entry by entry, is the product of the row that it equals. -/
theorem lin_at (f : Fin 512 → Row) (w : A2 1024 1024) (W : Fin 1024 → Row) (hW : ∀ k n, W k n = w (ix2 k n)) (r r' : Fin 512)
    (n n' : Fin 1024) (hr : r.val = r'.val) (hn : n.val = n'.val) : ∑ k, f r k * w (ix2 k n) = lin (f r') W n' := by
  obtain rfl : r = r' := Fin.ext hr
  obtain rfl : n = n' := Fin.ext hn
  simp only [lin, hW]

/-- The convolution's norm and activation, from rows that equal the convolution, the scale and the shift. -/
theorem cact_at (p : Par) (a : Fin 31 → Row) (c g b : Row) (k k' : Fin 1024) (hc : c = conv p a) (hg : g = p.clg) (hb : b = p.clb)
    (hk : k.val = k'.val) : ln c g b k * Ideal.logistic (ln c g b k) = cact p a k' := by
  obtain rfl : k = k' := Fin.ext hk
  rw [hc, hg, hb]
  rfl

variable (c : Dev nD)
  (arg2 : Memref sig .tc .vmem S1x512x1024 .f32) (harg2 : arg2.IsWhole)
  (arg3 : Memref sig .tc .vmem S1x1024 .f32) (harg3 : arg3.IsWhole)
  (arg4 : Memref sig .tc .vmem S1024x6144 .bf16) (harg4 : arg4.IsWhole)
  (arg5 : Memref sig .tc .vmem S1x6144 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S128x8 .f32) (harg15 : arg15.IsWhole)
  (arg16 : Memref sig .tc .vmem S1024x1024 .bf16) (harg16 : arg16.IsWhole)
  (arg17 : Memref sig .tc .vmem S1x1024 .f32) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S64x1024 .bf16) (harg21 : arg21.IsWhole)
  (arg22 : Memref sig .tc .vmem S64x1 .f32) (harg22 : arg22.IsWhole)
  (arg23 : Memref sig .tc .vmem S512x512 .bf16) (harg23 : arg23.IsWhole)
  (arg24 : Memref sig .tc .vmem S1x512x1024 .f32) (harg24 : arg24.IsWhole)
  (arg25 : Memref sig .tc .vmem S1x512x1024 .bf16) (harg25 : arg25.IsWhole)
  (arg26 : Memref sig .tc .vmem S1x8x512 .f32) (harg26 : arg26.IsWhole)
  (arg27 : Memref sig .tc .vmem S1x32x128 .f32) (harg27 : arg27.IsWhole)
  (arg28 : Memref sig .tc .vmem S512x1024 .bf16) (harg28 : arg28.IsWhole)
  (arg29 : Memref sig .tc .vmem S512x2048 .f32) (harg29 : arg29.IsWhole)
  (arg30 : Memref sig .tc .vmem S512x2048 .f32) (harg30 : arg30.IsWhole)
  (arg31 : Memref sig .tc .vmem S512x2048 .f32) (harg31 : arg31.IsWhole)
  (arg32 : Memref sig .tc .vmem S8x544x128 .f32) (harg32 : arg32.IsWhole)
  (arg33 : Memref sig .tc .vmem S512x1024 .bf16) (harg33 : arg33.IsWhole)
  (arg34 : Memref sig .tc .vmem S512x1024 .f32) (harg34 : arg34.IsWhole)
  (arg35 : Memref sig .tc .vmem S512x1024 .f32) (harg35 : arg35.IsWhole)
  (arg36 : Memref sig .tc .vmem S512x1024 .f32) (harg36 : arg36.IsWhole)
  (arg37 : Memref sig .tc .vmem S512x1024 .bf16) (harg37 : arg37.IsWhole)
  (x0 : Vec Ideal S1x512x1024 .f32)
  (x1 : Vec Ideal S1x1024 .f32)
  (x2 : Vec Ideal S1024x6144 .bf16)
  (x3 : Vec Ideal S1x6144 .f32)
  (x4 : Vec Ideal S31x1024 .f32)
  (x5 : Vec Ideal S1x1024 .f32)
  (x6 : Vec Ideal S1x1024 .f32)
  (x7 : Vec Ideal S1x1024 .f32)
  (x8 : Vec Ideal S1024x1024 .bf16)
  (x9 : Vec Ideal S1x1024 .f32)
  (x10 : Vec Ideal S1x1024 .f32)
  (x11 : Vec Ideal S1x1024 .f32)
  (x12 : Vec Ideal S8x128x128 .f32)
  (x13 : Vec Ideal S128x8 .f32)
  (x14 : Vec Ideal S1024x1024 .bf16)
  (x15 : Vec Ideal S1x1024 .f32)
  (x16 : Vec Ideal S1024x1024 .bf16)
  (x17 : Vec Ideal S1x1024 .f32)
  (x18 : Vec Ideal S1x1024 .f32)
  (x19 : Vec Ideal S64x1024 .bf16)
  (x20 : Vec Ideal S64x1 .f32)
  (x21 : Vec Ideal S512x512 .bf16)
  (xs4 : Vec Ideal S8x544x128 .f32)

/-- The last third of the input projection, without its bias, at a later tile. -/
theorem B_HS3 :
    View.canon (kernelRun0_B.sl.HS3_4 (F := Ideal) c arg2 harg2 arg3 harg3 arg4 harg4 arg28 x0 x1 x2) = arr2 (tP (tp x1 x2 x3 x4 x5 x6 x7 x8 x9 x10 x11 x12 x13 x14 x15 x16 x17 x18) (tx x0) 2) := by
  have e : (kernelRun0_B.sl.HS3_4 (F := Ideal) c arg2 harg2 arg3 harg3 arg4 harg4 arg28 x0 x1 x2) = (kernelRun0_A.sl.HS3_4 (F := Ideal) c arg2 harg2 arg3 harg3 arg4 harg4 arg28 x0 x1 x2) := by sl_kernel_rfl
  rw [e]
  exact A_HS3 ..

/-- The last third of the input projection at a first tile and at a later one. -/
theorem third :
    View.canon (kernelRun0_A.sl.HS3_4 (F := Ideal) c arg2 harg2 arg3 harg3 arg4 harg4 arg28 x0 x1 x2) = arr2 (tP (tp x1 x2 x3 x4 x5 x6 x7 x8 x9 x10 x11 x12 x13 x14 x15 x16 x17 x18) (tx x0) 2) ∧ View.canon (kernelRun0_B.sl.HS3_4 (F := Ideal) c arg2 harg2 arg3 harg3 arg4 harg4 arg28 x0 x1 x2) = arr2 (tP (tp x1 x2 x3 x4 x5 x6 x7 x8 x9 x10 x11 x12 x13 x14 x15 x16 x17 x18) (tx x0) 2) := by
  exact ⟨A_HS3 .., B_HS3 ..⟩

/-- Rows read back from the left half of a buffer that holds the convolution there. -/
theorem left_read (p : Par) (a : Fin 8 → Fin 544 → Fin 128 → EReal) (v : View sig .tc .vmem S512x2048 .f32)
    (L : List (View.Piece (Elt Ideal) S512x2048 .f32))
    (h : ∀ (r : Fin 512) (n : Fin 2048), n.val < 1024 → View.canon L (ix2 r n) = tC p a r n) :
    v.readCov L (Rect.unit (s := S512x2048) k0_off3 S512x1024.size k0_off3_inb).toLoadRect = arr2 (fun (i : Fin 512) (l : Fin 1024) => conv p (tT a i) l) := by
  refine (readCov2 v L (tC p a) _ fun i l => h _ _ ?_).trans ?_
  · exact (Nat.zero_add l.val).trans_lt l.isLt
  · exact congrArg arr2 (funext fun i => funext fun l => tC_left _ _ _ _ _ _ (Nat.zero_add _) (Nat.zero_add _))

/-- The convolution, as the body reads it back. -/
theorem conv_read (a : Fin 8 → Fin 544 → Fin 128 → EReal) :
    (View.canon (kernelRun0_A.sl.HS4_9 (F := Ideal) c arg2 harg2 arg3 harg3 arg4 harg4 arg5 harg5 arg28 arg29 x0 x1 x2 x3) = arr3 a → arg29.view.readCov (kernelRun0_A.sl.HS1_36 (F := Ideal) c arg2 harg2 arg3 harg3 arg4 harg4 arg5 harg5 arg6 harg6 arg7 harg7 arg28 arg29 arg32 x0 x1 x2 x3 x4 x5) (Rect.unit (s := S512x2048) k0_off3 S512x1024.size k0_off3_inb).toLoadRect = arr2 (fun (i : Fin 512) (l : Fin 1024) => conv (tp x1 x2 x3 x4 x5 x6 x7 x8 x9 x10 x11 x12 x13 x14 x15 x16 x17 x18) (tT a i) l))
    ∧ (View.canon (kernelRun0_B.sl.HS4_9 (F := Ideal) c arg2 harg2 arg3 harg3 arg4 harg4 arg5 harg5 arg28 arg29 arg32 harg32 x0 x1 x2 x3 xs4) = arr3 a → arg29.view.readCov (kernelRun0_B.sl.HS1_36 (F := Ideal) c arg2 harg2 arg3 harg3 arg4 harg4 arg5 harg5 arg6 harg6 arg7 harg7 arg28 arg29 arg32 harg32 x0 x1 x2 x3 x4 x5 xs4) (Rect.unit (s := S512x2048) k0_off3 S512x1024.size k0_off3_inb).toLoadRect = arr2 (fun (i : Fin 512) (l : Fin 1024) => conv (tp x1 x2 x3 x4 x5 x6 x7 x8 x9 x10 x11 x12 x13 x14 x15 x16 x17 x18) (tT a i) l)) :=
  ⟨fun hA => left_read (tp x1 x2 x3 x4 x5 x6 x7 x8 x9 x10 x11 x12 x13 x14 x15 x16 x17 x18) a _ _ fun r n hn => (conv_left c arg2 harg2 arg3 harg3 arg4 harg4 arg5 harg5 arg6 harg6 arg7 harg7 arg28 arg29 arg32 harg32 x0 x1 x2 x3 x4 x5 x6 x7 x8 x9 x10 x11 x12 x13 x14 x15 x16 x17 x18 xs4 a r n hn).1 hA, fun hA => left_read (tp x1 x2 x3 x4 x5 x6 x7 x8 x9 x10 x11 x12 x13 x14 x15 x16 x17 x18) a _ _ fun r n hn => (conv_left c arg2 harg2 arg3 harg3 arg4 harg4 arg5 harg5 arg6 harg6 arg7 harg7 arg28 arg29 arg32 harg32 x0 x1 x2 x3 x4 x5 x6 x7 x8 x9 x10 x11 x12 x13 x14 x15 x16 x17 x18 xs4 a r n hn).2 hA⟩

/-- The convolution, normed and activated. -/
theorem s5 (a : Fin 8 → Fin 544 → Fin 128 → EReal) :
    (View.canon (kernelRun0_A.sl.HS4_9 (F := Ideal) c arg2 harg2 arg3 harg3 arg4 harg4 arg5 harg5 arg28 arg29 x0 x1 x2 x3) = arr3 a → View.canon (kernelRun0_A.sl.HS5_1 (F := Ideal) c arg2 harg2 arg3 harg3 arg4 harg4 arg5 harg5 arg6 harg6 arg7 harg7 arg8 harg8 arg9 harg9 arg28 arg29 arg32 x0 x1 x2 x3 x4 x5 x6 x7) = arr2 fun r => cact (tp x1 x2 x3 x4 x5 x6 x7 x8 x9 x10 x11 x12 x13 x14 x15 x16 x17 x18) (tT a r))
    ∧ (View.canon (kernelRun0_B.sl.HS4_9 (F := Ideal) c arg2 harg2 arg3 harg3 arg4 harg4 arg5 harg5 arg28 arg29 arg32 harg32 x0 x1 x2 x3 xs4) = arr3 a → View.canon (kernelRun0_B.sl.HS5_1 (F := Ideal) c arg2 harg2 arg3 harg3 arg4 harg4 arg5 harg5 arg6 harg6 arg7 harg7 arg8 harg8 arg9 harg9 arg28 arg29 arg32 harg32 x0 x1 x2 x3 x4 x5 x6 x7 xs4) = arr2 fun r => cact (tp x1 x2 x3 x4 x5 x6 x7 x8 x9 x10 x11 x12 x13 x14 x15 x16 x17 x18) (tT a r)) := by
  have fc := conv_read c arg2 harg2 arg3 harg3 arg4 harg4 arg5 harg5 arg6 harg6 arg7 harg7 arg28 arg29 arg32 harg32 x0 x1 x2 x3 x4 x5 x6 x7 x8 x9 x10 x11 x12 x13 x14 x15 x16 x17 x18 xs4 a
  refine ⟨fun hA => ?_, fun hA => ?_⟩
  on_goal 1 =>
    have hc := fc.1 hA
  on_goal 2 =>
    have hc := fc.2 hA
  all_goals
    refine canon_full _ _ (cons2 (fun i l => ?_) trivial) (View.cover_of_tiledL _ S512x1024.size (by sl_kernel_rfl))
    sl_unfold_run_values
    rw [hc]
    simp only [readAt2]
    refine (pay656_at _ _ _ _ _).trans ?_
    refine cact_at _ _ _ _ _ _ _ ?_ ?_ ?_ ?_
    · funext k; simp [o2]
    · funext k; simp [row, tp]
    · funext k; simp [row, tp]
    · simp [o2]

/-- The convolution branch's output, without its bias. -/
theorem s6 (a : Fin 8 → Fin 544 → Fin 128 → EReal) :
    (View.canon (kernelRun0_A.sl.HS4_9 (F := Ideal) c arg2 harg2 arg3 harg3 arg4 harg4 arg5 harg5 arg28 arg29 x0 x1 x2 x3) = arr3 a → View.canon (kernelRun0_A.sl.HS6_2 (F := Ideal) c arg2 harg2 arg3 harg3 arg4 harg4 arg5 harg5 arg6 harg6 arg7 harg7 arg8 harg8 arg9 harg9 arg10 harg10 arg28 arg29 arg32 arg33 x0 x1 x2 x3 x4 x5 x6 x7 x8) = arr2 fun r => lin (cact (tp x1 x2 x3 x4 x5 x6 x7 x8 x9 x10 x11 x12 x13 x14 x15 x16 x17 x18) (tT a r)) (tp x1 x2 x3 x4 x5 x6 x7 x8 x9 x10 x11 x12 x13 x14 x15 x16 x17 x18).wco)
    ∧ (View.canon (kernelRun0_B.sl.HS4_9 (F := Ideal) c arg2 harg2 arg3 harg3 arg4 harg4 arg5 harg5 arg28 arg29 arg32 harg32 x0 x1 x2 x3 xs4) = arr3 a → View.canon (kernelRun0_B.sl.HS6_2 (F := Ideal) c arg2 harg2 arg3 harg3 arg4 harg4 arg5 harg5 arg6 harg6 arg7 harg7 arg8 harg8 arg9 harg9 arg10 harg10 arg28 arg29 arg32 harg32 arg33 x0 x1 x2 x3 x4 x5 x6 x7 x8 xs4) = arr2 fun r => lin (cact (tp x1 x2 x3 x4 x5 x6 x7 x8 x9 x10 x11 x12 x13 x14 x15 x16 x17 x18) (tT a r)) (tp x1 x2 x3 x4 x5 x6 x7 x8 x9 x10 x11 x12 x13 x14 x15 x16 x17 x18).wco) := by
  have f5 := s5 c arg2 harg2 arg3 harg3 arg4 harg4 arg5 harg5 arg6 harg6 arg7 harg7 arg8 harg8 arg9 harg9 arg28 arg29 arg32 harg32 x0 x1 x2 x3 x4 x5 x6 x7 x8 x9 x10 x11 x12 x13 x14 x15 x16 x17 x18 xs4 a
  refine ⟨fun hA => ?_, fun hA => ?_⟩
  on_goal 1 =>
    have h5 := f5.1 hA
  on_goal 2 =>
    have h5 := f5.2 hA
  all_goals
    refine canon_full _ _ (cons2 (fun i l => ?_) (cons2 (fun i l => ?_) trivial)) (View.cover_of_tiledL _ S512x512.size (by sl_kernel_rfl))
    all_goals
      sl_unfold_run_values
      simp only [readAll2 _ _ _ h5, readAt2]
      simp only [k0_pay657, k0_pay658]
      pointwise
      simp only [arr2_ix2]
      refine lin_at (fun r => cact (tp x1 x2 x3 x4 x5 x6 x7 x8 x9 x10 x11 x12 x13 x14 x15 x16 x17 x18) (tT a r)) x8 _ (fun _ _ => rfl) _ _ _ _ ?_ ?_
      all_goals first | rfl | (simp only; omega) | (simp; done) | (simp; omega) | (simp [o2, o3, o4, at6]; done) | (simp [o2, o3, o4, at6]; omega)

/-- The spatial gating branch's output, without its bias. -/
theorem s7 (a : Fin 8 → Fin 544 → Fin 128 → EReal) :
    (View.canon (kernelRun0_A.sl.HS4_9 (F := Ideal) c arg2 harg2 arg3 harg3 arg4 harg4 arg5 harg5 arg28 arg29 x0 x1 x2 x3) = arr3 a → View.canon (kernelRun0_A.sl.HS7_2 (F := Ideal) c arg2 harg2 arg3 harg3 arg4 harg4 arg5 harg5 arg6 harg6 arg7 harg7 arg8 harg8 arg9 harg9 arg12 harg12 arg13 harg13 arg14 harg14 arg15 harg15 arg16 harg16 arg28 arg29 arg30 arg32 arg33 arg36 arg37 x0 x1 x2 x3 x4 x5 x6 x7 x10 x11 x12 x13 x14) = arr2 fun r => lin (tS (tp x1 x2 x3 x4 x5 x6 x7 x8 x9 x10 x11 x12 x13 x14 x15 x16 x17 x18) (tx x0) r) (tp x1 x2 x3 x4 x5 x6 x7 x8 x9 x10 x11 x12 x13 x14 x15 x16 x17 x18).wso)
    ∧ (View.canon (kernelRun0_B.sl.HS4_9 (F := Ideal) c arg2 harg2 arg3 harg3 arg4 harg4 arg5 harg5 arg28 arg29 arg32 harg32 x0 x1 x2 x3 xs4) = arr3 a → View.canon (kernelRun0_B.sl.HS7_2 (F := Ideal) c arg2 harg2 arg3 harg3 arg4 harg4 arg5 harg5 arg6 harg6 arg7 harg7 arg8 harg8 arg9 harg9 arg12 harg12 arg13 harg13 arg14 harg14 arg15 harg15 arg16 harg16 arg28 arg29 arg30 arg32 harg32 arg33 arg36 arg37 x0 x1 x2 x3 x4 x5 x6 x7 x10 x11 x12 x13 x14 xs4) = arr2 fun r => lin (tS (tp x1 x2 x3 x4 x5 x6 x7 x8 x9 x10 x11 x12 x13 x14 x15 x16 x17 x18) (tx x0) r) (tp x1 x2 x3 x4 x5 x6 x7 x8 x9 x10 x11 x12 x13 x14 x15 x16 x17 x18).wso) := by
  have f5 := gate c arg2 harg2 arg3 harg3 arg4 harg4 arg5 harg5 arg6 harg6 arg7 harg7 arg8 harg8 arg9 harg9 arg12 harg12 arg13 harg13 arg14 harg14 arg15 harg15 arg28 arg29 arg30 arg32 harg32 arg36 arg37 x0 x1 x2 x3 x4 x5 x6 x7 x8 x9 x10 x11 x12 x13 x14 x15 x16 x17 x18 xs4
  refine ⟨fun hA => ?_, fun hA => ?_⟩
  on_goal 1 =>
    have h5 := f5.1
  on_goal 2 =>
    have h5 := f5.2
  all_goals
    refine canon_full _ _ (cons2 (fun i l => ?_) (cons2 (fun i l => ?_) trivial)) (View.cover_of_tiledL _ S512x512.size (by sl_kernel_rfl))
    all_goals
      sl_unfold_run_values
      simp only [readAll2 _ _ _ h5, readAt2]
      simp only [k0_pay717, k0_pay718]
      pointwise
      simp only [arr2_ix2]
      refine lin_at (tS (tp x1 x2 x3 x4 x5 x6 x7 x8 x9 x10 x11 x12 x13 x14 x15 x16 x17 x18) (tx x0)) x14 _ (fun _ _ => rfl) _ _ _ _ ?_ ?_
      all_goals first | rfl | (simp only; omega) | (simp; done) | (simp; omega) | (simp [o2, o3, o4, at6]; done) | (simp [o2, o3, o4, at6]; omega)

/-- The gated sum of the two branches. -/
theorem s34 (a : Fin 8 → Fin 544 → Fin 128 → EReal) :
    (View.canon (kernelRun0_A.sl.HS4_9 (F := Ideal) c arg2 harg2 arg3 harg3 arg4 harg4 arg5 harg5 arg28 arg29 x0 x1 x2 x3) = arr3 a → View.canon (kernelRun0_A.sl.HS5_34 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg28 arg29 arg30 arg31 arg32 arg33 arg34 arg35 arg36 arg37 x0 x1 x2 x3 x4 x5 x6 x7 x8 x9 x10 x11 x12 x13 x14 x15) = arr2 (tM (tp x1 x2 x3 x4 x5 x6 x7 x8 x9 x10 x11 x12 x13 x14 x15 x16 x17 x18) a (tx x0)))
    ∧ (View.canon (kernelRun0_B.sl.HS4_9 (F := Ideal) c arg2 harg2 arg3 harg3 arg4 harg4 arg5 harg5 arg28 arg29 arg32 harg32 x0 x1 x2 x3 xs4) = arr3 a → View.canon (kernelRun0_B.sl.HS5_34 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg28 arg29 arg30 arg31 arg32 harg32 arg33 arg34 arg35 arg36 arg37 x0 x1 x2 x3 x4 x5 x6 x7 x8 x9 x10 x11 x12 x13 x14 x15 xs4) = arr2 (tM (tp x1 x2 x3 x4 x5 x6 x7 x8 x9 x10 x11 x12 x13 x14 x15 x16 x17 x18) a (tx x0))) := by
  have f3 := third c arg2 harg2 arg3 harg3 arg4 harg4 arg28 x0 x1 x2 x3 x4 x5 x6 x7 x8 x9 x10 x11 x12 x13 x14 x15 x16 x17 x18
  have f6 := s6 c arg2 harg2 arg3 harg3 arg4 harg4 arg5 harg5 arg6 harg6 arg7 harg7 arg8 harg8 arg9 harg9 arg10 harg10 arg28 arg29 arg32 harg32 arg33 x0 x1 x2 x3 x4 x5 x6 x7 x8 x9 x10 x11 x12 x13 x14 x15 x16 x17 x18 xs4 a
  have f7 := s7 c arg2 harg2 arg3 harg3 arg4 harg4 arg5 harg5 arg6 harg6 arg7 harg7 arg8 harg8 arg9 harg9 arg12 harg12 arg13 harg13 arg14 harg14 arg15 harg15 arg16 harg16 arg28 arg29 arg30 arg32 harg32 arg33 arg36 arg37 x0 x1 x2 x3 x4 x5 x6 x7 x8 x9 x10 x11 x12 x13 x14 x15 x16 x17 x18 xs4 a
  refine ⟨fun hA => ?_, fun hA => ?_⟩
  on_goal 1 =>
    have h3 := f3.1
    have h6 := f6.1 hA
    have h7 := f7.1 hA
  on_goal 2 =>
    have h3 := f3.2
    have h6 := f6.2 hA
    have h7 := f7.2 hA
  all_goals
    refine canon_take 1 _ _ (cons2 (fun i l => ?_) trivial) (View.cover_of_tiledL _ S512x1024.size (by sl_kernel_rfl))
    sl_unfold_run_values
    simp only [readAll2 _ _ _ h3, readAll2 _ _ _ h6, readAll2 _ _ _ h7, readAt2]
    refine (pay719_at _ _ _ _ _ _ _ _ _ _).trans ?_
    simp only [arr2_ix2]
    refine congrArg₂ (· + ·)
      (congrArg₂ (· * ·) (congrArg Ideal.logistic (proj_at _ _ _ _ _ _ _ _ _ ?_ ?_ ?_)) ?_)
      (congrArg₂ (· * ·) (congrArg Ideal.logistic (proj_at _ _ _ _ _ _ _ _ _ ?_ ?_ ?_)) ?_)
    on_goal 7 => simp [o2, ya, tp]
    on_goal 7 => simp [o2, tp]
    all_goals first | rfl | (simp only; omega) | (simp; done) | (simp; omega) | (simp [o2, o3, o4, at6]; done) | (simp [o2, o3, o4, at6]; omega)

/-- The output projection, without its bias. -/
theorem s64 (a : Fin 8 → Fin 544 → Fin 128 → EReal) :
    (View.canon (kernelRun0_A.sl.HS4_9 (F := Ideal) c arg2 harg2 arg3 harg3 arg4 harg4 arg5 harg5 arg28 arg29 x0 x1 x2 x3) = arr3 a → View.canon (kernelRun0_A.sl.HS6_4 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg28 arg29 arg30 arg31 arg32 arg33 arg34 arg35 arg36 arg37 x0 x1 x2 x3 x4 x5 x6 x7 x8 x9 x10 x11 x12 x13 x14 x15 x16) = arr2 fun r => lin (tM (tp x1 x2 x3 x4 x5 x6 x7 x8 x9 x10 x11 x12 x13 x14 x15 x16 x17 x18) a (tx x0) r) (tp x1 x2 x3 x4 x5 x6 x7 x8 x9 x10 x11 x12 x13 x14 x15 x16 x17 x18).wout)
    ∧ (View.canon (kernelRun0_B.sl.HS4_9 (F := Ideal) c arg2 harg2 arg3 harg3 arg4 harg4 arg5 harg5 arg28 arg29 arg32 harg32 x0 x1 x2 x3 xs4) = arr3 a → View.canon (kernelRun0_B.sl.HS6_4 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg28 arg29 arg30 arg31 arg32 harg32 arg33 arg34 arg35 arg36 arg37 x0 x1 x2 x3 x4 x5 x6 x7 x8 x9 x10 x11 x12 x13 x14 x15 x16 xs4) = arr2 fun r => lin (tM (tp x1 x2 x3 x4 x5 x6 x7 x8 x9 x10 x11 x12 x13 x14 x15 x16 x17 x18) a (tx x0) r) (tp x1 x2 x3 x4 x5 x6 x7 x8 x9 x10 x11 x12 x13 x14 x15 x16 x17 x18).wout) := by
  have f5 := s34 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg28 arg29 arg30 arg31 arg32 harg32 arg33 arg34 arg35 arg36 arg37 x0 x1 x2 x3 x4 x5 x6 x7 x8 x9 x10 x11 x12 x13 x14 x15 x16 x17 x18 xs4 a
  refine ⟨fun hA => ?_, fun hA => ?_⟩
  on_goal 1 =>
    have h5 := f5.1 hA
  on_goal 2 =>
    have h5 := f5.2 hA
  all_goals
    refine canon_take 2 _ _ (cons2 (fun i l => ?_) (cons2 (fun i l => ?_) trivial)) (View.cover_of_tiledL _ S512x512.size (by sl_kernel_rfl))
    all_goals
      sl_unfold_run_values
      simp only [readAll2 _ _ _ h5, readAt2]
      simp only [k0_pay721, k0_pay722]
      pointwise
      simp only [arr2_ix2]
      refine lin_at (tM (tp x1 x2 x3 x4 x5 x6 x7 x8 x9 x10 x11 x12 x13 x14 x15 x16 x17 x18) a (tx x0)) x16 _ (fun _ _ => rfl) _ _ _ _ ?_ ?_
      all_goals first | rfl | (simp only; omega) | (simp; done) | (simp; omega) | (simp [o2, o3, o4, at6]; done) | (simp [o2, o3, o4, at6]; omega)

/-- The first result's block. -/
theorem s22 (a : Fin 8 → Fin 544 → Fin 128 → EReal) :
    (View.canon (kernelRun0_A.sl.HS4_9 (F := Ideal) c arg2 harg2 arg3 harg3 arg4 harg4 arg5 harg5 arg28 arg29 x0 x1 x2 x3) = arr3 a → View.canon ([⟨Rect.unit k0_off1 S1x512x1024.size k0_off1_inb, k0_pay724 (kernelRun0_A.sl.r_635 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg28 arg29 arg30 arg31 arg32 arg33 arg34 arg35 arg36 arg37 x0 x1 x2 x3 x4 x5 x6 x7 x8 x9 x10 x11 x12 x13 x14 x15 x16 x17)⟩] : List (View.Piece (Elt Ideal) S1x512x1024 .f32)) = arr3 fun _ => tX (tp x1 x2 x3 x4 x5 x6 x7 x8 x9 x10 x11 x12 x13 x14 x15 x16 x17 x18) a (tx x0))
    ∧ (View.canon (kernelRun0_B.sl.HS4_9 (F := Ideal) c arg2 harg2 arg3 harg3 arg4 harg4 arg5 harg5 arg28 arg29 arg32 harg32 x0 x1 x2 x3 xs4) = arr3 a → View.canon ([⟨Rect.unit k0_off1 S1x512x1024.size k0_off1_inb, k0_pay724 (kernelRun0_B.sl.r_635 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg28 arg29 arg30 arg31 arg32 harg32 arg33 arg34 arg35 arg36 arg37 x0 x1 x2 x3 x4 x5 x6 x7 x8 x9 x10 x11 x12 x13 x14 x15 x16 x17 xs4)⟩] : List (View.Piece (Elt Ideal) S1x512x1024 .f32)) = arr3 fun _ => tX (tp x1 x2 x3 x4 x5 x6 x7 x8 x9 x10 x11 x12 x13 x14 x15 x16 x17 x18) a (tx x0)) := by
  have f6 := s64 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg28 arg29 arg30 arg31 arg32 harg32 arg33 arg34 arg35 arg36 arg37 x0 x1 x2 x3 x4 x5 x6 x7 x8 x9 x10 x11 x12 x13 x14 x15 x16 x17 x18 xs4 a
  refine ⟨fun hA => ?_, fun hA => ?_⟩
  on_goal 1 =>
    have h6 := f6.1 hA
  on_goal 2 =>
    have h6 := f6.2 hA
  all_goals
    refine canon_full _ _ (cons3 (fun i l d => ?_) trivial) (View.cover_of_tiledL _ S1x512x1024.size (by sl_kernel_rfl))
    obtain rfl : i = 0 := Subsingleton.elim _ _
    sl_unfold_run_values
    simp only [readAll2 _ _ _ h6, readAt2, readAt3]
    refine (pay724_at _ _ _ _ _).trans ?_
    simp only [arr3_ix3, arr2_ix2, tX, tx]
    simp [o1, o2]
    rfl

/-- The second result's block. -/
theorem s23 (a : Fin 8 → Fin 544 → Fin 128 → EReal) :
    (View.canon (kernelRun0_A.sl.HS4_9 (F := Ideal) c arg2 harg2 arg3 harg3 arg4 harg4 arg5 harg5 arg28 arg29 x0 x1 x2 x3) = arr3 a → View.canon (kernelRun0_A.sl.H23_1 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg28 arg29 arg30 arg31 arg32 arg33 arg34 arg35 arg36 arg37 x0 x1 x2 x3 x4 x5 x6 x7 x8 x9 x10 x11 x12 x13 x14 x15 x16 x17 x18) = arr3 fun _ r => rms (tX (tp x1 x2 x3 x4 x5 x6 x7 x8 x9 x10 x11 x12 x13 x14 x15 x16 x17 x18) a (tx x0) r) (tp x1 x2 x3 x4 x5 x6 x7 x8 x9 x10 x11 x12 x13 x14 x15 x16 x17 x18).g2)
    ∧ (View.canon (kernelRun0_B.sl.HS4_9 (F := Ideal) c arg2 harg2 arg3 harg3 arg4 harg4 arg5 harg5 arg28 arg29 arg32 harg32 x0 x1 x2 x3 xs4) = arr3 a → View.canon (kernelRun0_B.sl.H23_1 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg28 arg29 arg30 arg31 arg32 harg32 arg33 arg34 arg35 arg36 arg37 x0 x1 x2 x3 x4 x5 x6 x7 x8 x9 x10 x11 x12 x13 x14 x15 x16 x17 x18 xs4) = arr3 fun _ r => rms (tX (tp x1 x2 x3 x4 x5 x6 x7 x8 x9 x10 x11 x12 x13 x14 x15 x16 x17 x18) a (tx x0) r) (tp x1 x2 x3 x4 x5 x6 x7 x8 x9 x10 x11 x12 x13 x14 x15 x16 x17 x18).g2) := by
  have f6 := s64 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg28 arg29 arg30 arg31 arg32 harg32 arg33 arg34 arg35 arg36 arg37 x0 x1 x2 x3 x4 x5 x6 x7 x8 x9 x10 x11 x12 x13 x14 x15 x16 x17 x18 xs4 a
  refine ⟨fun hA => ?_, fun hA => ?_⟩
  on_goal 1 =>
    have h6 := f6.1 hA
  on_goal 2 =>
    have h6 := f6.2 hA
  all_goals
    refine canon_full _ _ (cons3 (fun i l d => ?_) trivial) (View.cover_of_tiledL _ S1x512x1024.size (by sl_kernel_rfl))
    obtain rfl : i = 0 := Subsingleton.elim _ _
    sl_unfold_run_values
    simp only [readAll2 _ _ _ h6, readAt2, readAt3]
    refine (pay725_at _ _ _ _ _ _).trans ?_
    refine (congrArg₂ (fun f g => rms f g _) (funext fun k => (?_ : _ = tX (tp x1 x2 x3 x4 x5 x6 x7 x8 x9 x10 x11 x12 x13 x14 x15 x16 x17 x18) a (tx x0) l k)) (funext fun k => (?_ : _ = (tp x1 x2 x3 x4 x5 x6 x7 x8 x9 x10 x11 x12 x13 x14 x15 x16 x17 x18).g2 k))).trans ?_
    · simp only [arr3_ix3, arr2_ix2, tX, tx]; simp [o1, o2]; rfl
    · simp [row, tp]
    · simp [o1]

end Cert.Mix
-- ==== Proof.Mix.Blocks.lean ====
/- The kernel's blocks at a grid point, as the launch's arguments hold them. -/
module

public import proofs.«01_k».proof.Proof.Gen.KernelIdeal.Frame.Runs
public import proofs.«01_k».proof.Proof.Mix.Tile
public import Idealize.ShloMosaic.Lib.Claim
public import Idealize.ShloMosaic.Lib.Tactic.CleanTypes

@[expose] public section

set_option maxRecDepth 16384

noncomputable section

namespace Cert.Mix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The weights as the launch's arguments hold them. -/
def kp : Par :=
  parOf (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))

/-- The rows of the residual stream as the launch's argument holds them. -/
def kx : Fin 16 → Fin 4096 → Row := rowsOf (m ((c : Thread nD τ).loc main_arg0))

/-- Where the input's block lies at each point. -/
theorem idx0 : ∀ t : Fin cfg0.N, win0_0.index t (0 : Fin 3) = t.val / 8 ∧ win0_0.index t (1 : Fin 3) = t.val % 8 ∧ win0_0.index t (2 : Fin 3) = 0 := by
  decide +kernel

set_option maxHeartbeats 4000000 in
/-- The weights' blocks hold the launch's weights at every point. -/
theorem tp_eq (t : Fin cfg0.N) : tp (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) = kp m c := by
  have w2 : ∀ {a b : ℕ} (f : A2 a b) (e : (⟨2, ![a, b]⟩ : Shape).Idx → (⟨2, ![a, b]⟩ : Shape).Idx) (i : Fin a) (j : Fin b) (v : EReal),
      ((e (ix2 i j)) (0 : Fin 2)).val = i.val → ((e (ix2 i j)) (1 : Fin 2)).val = j.val → f (ix2 i j) = v → f (e (ix2 i j)) = v := by
    intro a b f e i j v h0 h1 h
    rw [← h]
    congr 1
    funext x
    fin_cases x
    · exact Fin.ext h0
    · exact Fin.ext h1
  have w3 : ∀ {a b d : ℕ} (f : A3 a b d) (e : (⟨3, ![a, b, d]⟩ : Shape).Idx → (⟨3, ![a, b, d]⟩ : Shape).Idx) (i : Fin a) (j : Fin b) (k : Fin d) (v : EReal),
      ((e (ix3 i j k)) (0 : Fin 3)).val = i.val → ((e (ix3 i j k)) (1 : Fin 3)).val = j.val → ((e (ix3 i j k)) (2 : Fin 3)).val = k.val → f (ix3 i j k) = v → f (e (ix3 i j k)) = v := by
    intro a b d f e i j k v h0 h1 h2 h
    rw [← h]
    congr 1
    funext x
    fin_cases x
    · exact Fin.ext h0
    · exact Fin.ext h1
    · exact Fin.ext h2
  have z : ∀ (n x : ℕ), 0 * n + 1 * x = x := fun n x => by omega
  unfold tp kp parOf
  refine (Par.mk.injEq ..).mpr ?_
  refine ⟨?_, ?_, ?_, ?_, ?_, ?_, ?_, ?_, ?_, ?_, ?_, ?_, ?_, ?_, ?_, ?_, ?_, ?_⟩
  · refine funext fun _ => w2 (V m c main_v21) ((cfg0.win 1).blk t).view.emb _ _ _ (z _ _) (z _ _) ?_; entry_read; pointwise
  · refine funext fun _ => funext fun _ => w2 (V m c main_v23) ((cfg0.win 2).blk t).view.emb _ _ _ (z _ _) (z _ _) ?_; entry_read; pointwise
  · refine funext fun _ => w2 (V m c main_v25) ((cfg0.win 3).blk t).view.emb _ _ _ (z _ _) (z _ _) ?_; entry_read; pointwise
  · refine funext fun _ => funext fun _ => w2 (V m c main_v26) ((cfg0.win 4).blk t).view.emb _ _ _ (z _ _) (z _ _) ?_; entry_read; pointwise
  · refine funext fun _ => w2 (V m c main_v28) ((cfg0.win 5).blk t).view.emb _ _ _ (z _ _) (z _ _) ?_; entry_read; pointwise
  · refine funext fun _ => w2 (V m c main_v30) ((cfg0.win 6).blk t).view.emb _ _ _ (z _ _) (z _ _) ?_; entry_read; pointwise
  · refine funext fun _ => w2 (V m c main_v32) ((cfg0.win 7).blk t).view.emb _ _ _ (z _ _) (z _ _) ?_; entry_read; pointwise
  · refine funext fun _ => funext fun _ => w2 (V m c main_v34) ((cfg0.win 8).blk t).view.emb _ _ _ (z _ _) (z _ _) ?_; entry_read; pointwise
  · refine funext fun _ => w2 (V m c main_v36) ((cfg0.win 9).blk t).view.emb _ _ _ (z _ _) (z _ _) ?_; entry_read; pointwise
  · refine funext fun _ => w2 (V m c main_v38) ((cfg0.win 10).blk t).view.emb _ _ _ (z _ _) (z _ _) ?_; entry_read; pointwise
  · refine funext fun _ => w2 (V m c main_v40) ((cfg0.win 11).blk t).view.emb _ _ _ (z _ _) (z _ _) ?_; entry_read; pointwise
  · refine funext fun _ => funext fun _ => funext fun _ => w3 (V m c main_v41) ((cfg0.win 12).blk t).view.emb _ _ _ _ (z _ _) (z _ _) (z _ _) ?_; entry_read; pointwise
  · refine funext fun _ => funext fun _ => w2 (V m c main_v43) ((cfg0.win 13).blk t).view.emb _ _ _ (z _ _) (z _ _) ?_; entry_read; pointwise
  · refine funext fun _ => funext fun _ => w2 (V m c main_v45) ((cfg0.win 14).blk t).view.emb _ _ _ (z _ _) (z _ _) ?_; entry_read; pointwise
  · refine funext fun _ => w2 (V m c main_v47) ((cfg0.win 15).blk t).view.emb _ _ _ (z _ _) (z _ _) ?_; entry_read; pointwise
  · refine funext fun _ => funext fun _ => w2 (V m c main_v49) ((cfg0.win 16).blk t).view.emb _ _ _ (z _ _) (z _ _) ?_; entry_read; pointwise
  · refine funext fun _ => w2 (V m c main_v51) ((cfg0.win 17).blk t).view.emb _ _ _ (z _ _) (z _ _) ?_; entry_read; pointwise
  · refine funext fun _ => w2 (V m c main_v53) ((cfg0.win 18).blk t).view.emb _ _ _ (z _ _) (z _ _) ?_; entry_read; pointwise

/-- The input's block at point `t` holds rows `512 (t % 8) …` of sequence `t / 8`. -/
theorem tx_eq (t : Fin cfg0.N) (r : Fin 512) : tx (iblk m c 0 t) r = kx m c ⟨t.val / 8, by have := t.isLt; have : t.val < 128 := this; omega⟩
    ⟨512 * (t.val % 8) + r.val, by omega⟩ := by
  refine funext fun k => congrArg (m ((c : Thread nD τ).loc main_arg0)) (funext fun a => Fin.ext ?_)
  have h := idx0 t
  fin_cases a
  · show win0_0.index t (0 : Fin 3) * 1 + 1 * 0 = t.val / 8
    omega
  · show win0_0.index t (1 : Fin 3) * 512 + 1 * r.val = 512 * (t.val % 8) + r.val
    omega
  · show win0_0.index t (2 : Fin 3) * 1024 + 1 * k.val = k.val
    omega

end Cert.Mix
-- ==== Proof.Mix.Point.lean ====
/- The results' blocks at a grid point: the mixer's rows. -/
module

public import proofs.«01_k».proof.Proof.Mix.Mid
public import proofs.«01_k».proof.Proof.Mix.Blocks
public import proofs.«01_k».proof.Proof.Mix.BodyOf

@[expose] public section

noncomputable section

namespace Cert.Mix

open Idealize.ShloMosaic Cert.KernelIdeal Cert.KernelIdeal.Gen

/-- The convolution's input by channel groups at the `s`-th tile of a sequence: the 32 rows before the tile, zero before the
    first token, and the tile's own. -/
def cA (p : Par) (x : Fin 4096 → Row) (s : ℕ) (c : Fin 8) (q : Fin 544) (l : Fin 128) : EReal :=
  if h : 512 * s + q.val < 32 ∨ 4128 ≤ 512 * s + q.val then 0
  else glu p (x ⟨512 * s + q.val - 32, by omega⟩) ⟨128 * c.val + l.val, by omega⟩

/-- A tile's rows behind the rows carried in are the convolution's input. -/
theorem tA_eq (p : Par) (x : Fin 4096 → Row) (s : ℕ) (hs : s < 8) (y : Fin 512 → Row) (halo : Fin 8 → Fin 32 → Fin 128 → EReal)
    (hy : ∀ r : Fin 512, y r = x ⟨512 * s + r.val, by omega⟩)
    (hh : ∀ c (q : Fin 32) l, halo c q l = cA p x s c ⟨q.val, by omega⟩ l) : tA p y halo = cA p x s := by
  funext c q l
  unfold tA
  split
  · exact hh _ _ _
  · rename_i h
    unfold cA
    rw [dif_neg (by omega), hy]
    refine congrArg (fun z => glu p (x z) _) (Fin.ext ?_)
    show 512 * s + (q.val - 32) = 512 * s + q.val - 32
    omega

/-- The convolution's taps at a row of the `s`-th tile. -/
theorem tT_eq (p : Par) (x : Fin 4096 → Row) (s : ℕ) (hs : s < 8) (r : Fin 512) :
    tT (cA p x s) r = tap p x ⟨512 * s + r.val, by omega⟩ := by
  funext k ch
  unfold tT tap padRow cA
  by_cases h : k.val + (512 * s + r.val) < 30
  · rw [dif_pos (Or.inl (by simp only; omega)), dif_pos (Or.inl h)]
  · rw [dif_neg (by simp only; omega), dif_neg (by simp only; omega)]
    refine congrArg₂ (fun z w => glu p (x z) w) (Fin.ext ?_) (Fin.ext ?_)
    · simp only; omega
    · simp only; omega

/-- The mixer at a row of the `s`-th tile. -/
theorem tX_eq (p : Par) (x : Fin 4096 → Row) (s : ℕ) (hs : s < 8) (y : Fin 512 → Row)
    (hy : ∀ r : Fin 512, y r = x ⟨512 * s + r.val, by omega⟩) (r : Fin 512) :
    tX p (cA p x s) y r = X1 p x ⟨512 * s + r.val, by omega⟩ := by
  funext n
  rw [X1_eq]
  have eB : ∀ k, tB y r k = blk x ⟨512 * s + r.val, by omega⟩ k := fun k => by
    unfold tB blk
    rw [hy]
    refine congrArg x (Fin.ext ?_)
    simp only
    omega
  have eQ : tQ r = pos ⟨512 * s + r.val, by omega⟩ := by
    unfold tQ pos
    refine Fin.ext ?_
    simp only
    omega
  unfold tX tM tS
  simp only [eB, eQ, hy, tT_eq p x s hs]

section

variable (c : Dev nD)
  (arg2 : Memref sig .tc .vmem S1x512x1024 .f32) (harg2 : arg2.IsWhole)
  (arg3 : Memref sig .tc .vmem S1x1024 .f32) (harg3 : arg3.IsWhole)
  (arg4 : Memref sig .tc .vmem S1024x6144 .bf16) (harg4 : arg4.IsWhole)
  (arg5 : Memref sig .tc .vmem S1x6144 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S128x8 .f32) (harg15 : arg15.IsWhole)
  (arg16 : Memref sig .tc .vmem S1024x1024 .bf16) (harg16 : arg16.IsWhole)
  (arg17 : Memref sig .tc .vmem S1x1024 .f32) (harg17 : arg17.IsWhole)
  (arg18 : Memref sig .tc .vmem S1024x1024 .bf16) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S64x1024 .bf16) (harg21 : arg21.IsWhole)
  (arg22 : Memref sig .tc .vmem S64x1 .f32) (harg22 : arg22.IsWhole)
  (arg23 : Memref sig .tc .vmem S512x512 .bf16) (harg23 : arg23.IsWhole)
  (arg24 : Memref sig .tc .vmem S1x512x1024 .f32) (harg24 : arg24.IsWhole)
  (arg25 : Memref sig .tc .vmem S1x512x1024 .bf16) (harg25 : arg25.IsWhole)
  (arg26 : Memref sig .tc .vmem S1x8x512 .f32) (harg26 : arg26.IsWhole)
  (arg27 : Memref sig .tc .vmem S1x32x128 .f32) (harg27 : arg27.IsWhole)
  (arg28 : Memref sig .tc .vmem S512x1024 .bf16) (harg28 : arg28.IsWhole)
  (arg29 : Memref sig .tc .vmem S512x2048 .f32) (harg29 : arg29.IsWhole)
  (arg30 : Memref sig .tc .vmem S512x2048 .f32) (harg30 : arg30.IsWhole)
  (arg31 : Memref sig .tc .vmem S512x2048 .f32) (harg31 : arg31.IsWhole)
  (arg32 : Memref sig .tc .vmem S8x544x128 .f32) (harg32 : arg32.IsWhole)
  (arg33 : Memref sig .tc .vmem S512x1024 .bf16) (harg33 : arg33.IsWhole)
  (arg34 : Memref sig .tc .vmem S512x1024 .f32) (harg34 : arg34.IsWhole)
  (arg35 : Memref sig .tc .vmem S512x1024 .f32) (harg35 : arg35.IsWhole)
  (arg36 : Memref sig .tc .vmem S512x1024 .f32) (harg36 : arg36.IsWhole)
  (arg37 : Memref sig .tc .vmem S512x1024 .bf16) (harg37 : arg37.IsWhole)
  (x0 : Vec Ideal S1x512x1024 .f32)
  (x1 : Vec Ideal S1x1024 .f32)
  (x2 : Vec Ideal S1024x6144 .bf16)
  (x3 : Vec Ideal S1x6144 .f32)
  (x4 : Vec Ideal S31x1024 .f32)
  (x5 : Vec Ideal S1x1024 .f32)
  (x6 : Vec Ideal S1x1024 .f32)
  (x7 : Vec Ideal S1x1024 .f32)
  (x8 : Vec Ideal S1024x1024 .bf16)
  (x9 : Vec Ideal S1x1024 .f32)
  (x10 : Vec Ideal S1x1024 .f32)
  (x11 : Vec Ideal S1x1024 .f32)
  (x12 : Vec Ideal S8x128x128 .f32)
  (x13 : Vec Ideal S128x8 .f32)
  (x14 : Vec Ideal S1024x1024 .bf16)
  (x15 : Vec Ideal S1x1024 .f32)
  (x16 : Vec Ideal S1024x1024 .bf16)
  (x17 : Vec Ideal S1x1024 .f32)
  (x18 : Vec Ideal S1x1024 .f32)
  (x19 : Vec Ideal S64x1024 .bf16)
  (x20 : Vec Ideal S64x1 .f32)
  (x21 : Vec Ideal S512x512 .bf16)
  (xs4 : Vec Ideal S8x544x128 .f32)

/-- The stores of the body at a first tile: the first result's, the second result's and the gated rows'. -/
theorem run_A (i : grid0.Coords) (h0 : cond0_0 i) (h1 : ¬cond0_1 i) : (pack (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 h0 h1 x0 x1 x2 x3 x4 x5 x6 x7 x8 x9 x10 x11 x12 x13 x14 x15 x16 x17 x18 x19 x20 x21)).l22 = [⟨Rect.unit k0_off1 S1x512x1024.size k0_off1_inb, k0_pay724 (kernelRun0_A.sl.r_635 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg28 arg29 arg30 arg31 arg32 arg33 arg34 arg35 arg36 arg37 x0 x1 x2 x3 x4 x5 x6 x7 x8 x9 x10 x11 x12 x13 x14 x15 x16 x17)⟩] ∧ (pack (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 h0 h1 x0 x1 x2 x3 x4 x5 x6 x7 x8 x9 x10 x11 x12 x13 x14 x15 x16 x17 x18 x19 x20 x21)).l23 = (kernelRun0_A.sl.H23_1 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg28 arg29 arg30 arg31 arg32 arg33 arg34 arg35 arg36 arg37 x0 x1 x2 x3 x4 x5 x6 x7 x8 x9 x10 x11 x12 x13 x14 x15 x16 x17 x18) ∧ (pack (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 h0 h1 x0 x1 x2 x3 x4 x5 x6 x7 x8 x9 x10 x11 x12 x13 x14 x15 x16 x17 x18 x19 x20 x21)).lS = (kernelRun0_A.sl.HS4_9 (F := Ideal) c arg2 harg2 arg3 harg3 arg4 harg4 arg5 harg5 arg28 arg29 x0 x1 x2 x3) :=
  ⟨by sl_kernel_rfl, by sl_kernel_rfl, by sl_kernel_rfl⟩

/-- The stores of the body at a later tile: the first result's, the second result's and the gated rows'. -/
theorem run_B (i : grid0.Coords) (h0 : ¬cond0_0 i) (h1 : cond0_1 i) : (pack (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 h0 h1 x0 x1 x2 x3 x4 x5 x6 x7 x8 x9 x10 x11 x12 x13 x14 x15 x16 x17 x18 x19 x20 x21 xs4)).l22 = [⟨Rect.unit k0_off1 S1x512x1024.size k0_off1_inb, k0_pay724 (kernelRun0_B.sl.r_635 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg28 arg29 arg30 arg31 arg32 harg32 arg33 arg34 arg35 arg36 arg37 x0 x1 x2 x3 x4 x5 x6 x7 x8 x9 x10 x11 x12 x13 x14 x15 x16 x17 xs4)⟩] ∧ (pack (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 h0 h1 x0 x1 x2 x3 x4 x5 x6 x7 x8 x9 x10 x11 x12 x13 x14 x15 x16 x17 x18 x19 x20 x21 xs4)).l23 = (kernelRun0_B.sl.H23_1 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg28 arg29 arg30 arg31 arg32 harg32 arg33 arg34 arg35 arg36 arg37 x0 x1 x2 x3 x4 x5 x6 x7 x8 x9 x10 x11 x12 x13 x14 x15 x16 x17 x18 xs4) ∧ (pack (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 h0 h1 x0 x1 x2 x3 x4 x5 x6 x7 x8 x9 x10 x11 x12 x13 x14 x15 x16 x17 x18 x19 x20 x21 xs4)).lS = (kernelRun0_B.sl.HS4_9 (F := Ideal) c arg2 harg2 arg3 harg3 arg4 harg4 arg5 harg5 arg28 arg29 arg32 harg32 x0 x1 x2 x3 xs4) :=
  ⟨by sl_kernel_rfl, by sl_kernel_rfl, by sl_kernel_rfl⟩

end

variable (m : (ℓ : Loc nD τ sig) → Buf (Elt Ideal) ℓ) (c : Dev nD)

/-- The sequence of a grid point. -/
def sq (t : Fin cfg0.N) : Fin 16 := ⟨t.val / 8, by have : t.val < 128 := t.isLt; omega⟩

/-- The gated rows that a first tile leaves. -/
theorem left_A (t : Fin cfg0.N) (h : t.val % 8 = 0) :
    View.canon (stA m c t h).lS = arr3 (tA (kp m c) (tx (iblk m c 0 t)) fun _ _ _ => 0) := by
  refine (congrArg View.canon (run_A ..).2.2).trans ((A_HS4 (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (x16 := iblk m c 16 t) (x17 := iblk m c 17 t) (x18 := iblk m c 18 t) ..).trans ?_)
  rw [tp_eq]

/-- The gated rows that a later tile leaves. -/
theorem left_B (t : Fin cfg0.N) (h : ¬t.val % 8 = 0) (a : Vec Ideal S8x544x128 .f32) : View.canon (stB m c t h a).lS
    = arr3 (tA (kp m c) (tx (iblk m c 0 t)) fun c q l => a (ix3 c ⟨512 + q.val, by omega⟩ l)) := by
  refine (congrArg View.canon (run_B ..).2.2).trans ((B_HS4 (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (x16 := iblk m c 16 t) (x17 := iblk m c 17 t) (x18 := iblk m c 18 t) ..).trans ?_)
  rw [tp_eq]

/-- The gated rows that a point leaves are the convolution's input at its tile. -/
theorem carry_eq : ∀ (n : ℕ) (hn : n < cfg0.N), carry m c n hn = arr3 (cA (kp m c) (kx m c (sq ⟨n, hn⟩)) (n % 8)) := by
  intro n
  induction n with
  | zero =>
    intro hn
    refine (carry_A m c ⟨0, hn⟩ rfl).trans ?_
    refine (left_A ..).trans (congrArg arr3 ?_)
    exact tA_eq _ _ _ (by omega) _ _ (fun r => tx_eq m c ⟨0, hn⟩ r) (fun c q l => by unfold cA; rw [dif_pos (Or.inl (by simp))])
  | succ n ih =>
    intro hn
    by_cases h : (n + 1) % 8 = 0
    · refine (carry_A m c ⟨n + 1, hn⟩ h).trans ?_
      refine (left_A ..).trans (congrArg arr3 ?_)
      exact tA_eq _ _ _ (by omega) _ _ (fun r => tx_eq m c ⟨n + 1, hn⟩ r)
        (fun c q l => by unfold cA; rw [dif_pos (Or.inl (by have := q.isLt; simp only; omega))])
    · refine (carry_B m c ⟨n + 1, hn⟩ h).trans ?_
      refine (left_B ..).trans (congrArg arr3 ?_)
      refine tA_eq _ _ _ (by omega) _ _ (fun r => tx_eq m c ⟨n + 1, hn⟩ r) (fun c' q l => ?_)
      have e : carry m c n (Nat.lt_of_succ_lt hn) = _ := ih (Nat.lt_of_succ_lt hn)
      refine (congrFun e _).trans ?_
      rw [arr3_ix3]
      have eb : sq ⟨n, Nat.lt_of_succ_lt hn⟩ = sq ⟨n + 1, hn⟩ := Fin.ext (by simp only [sq]; omega)
      rw [eb]
      unfold cA
      have hq : 512 * (n % 8) + (512 + q.val) = 512 * ((n + 1) % 8) + q.val := by omega
      simp only [hq]

/-- The first result's block at a point. -/
theorem outs22 (t : Fin cfg0.N) : (outs m c t).1
    = arr3 fun _ r => X1 (kp m c) (kx m c (sq t)) ⟨512 * (t.val % 8) + r.val, by omega⟩ := by
  by_cases h : t.val % 8 = 0
  · have hc := (carry_A m c t h).symm.trans (carry_eq m c t.val t.isLt)
    have hr := (congrArg View.canon (run_A ..).2.2).symm.trans hc
    refine (outs_A22 m c t h).trans ((congrArg View.canon (run_A ..).1).trans
      (((s22 (harg32 := Memref.isWhole_whole _) (x18 := iblk m c 18 t) (xs4 := fun _ => 0) ..).1 hr).trans (congrArg arr3 (funext fun _ => funext fun r => ?_))))
    rw [tp_eq]
    exact tX_eq _ _ _ (by omega) _ (fun r => tx_eq m c t r) r
  · have hc := (carry_B m c t h).symm.trans (carry_eq m c t.val t.isLt)
    have hr := (congrArg View.canon (run_B ..).2.2).symm.trans hc
    refine (outs_B22 m c t h).trans ((congrArg View.canon (run_B ..).1).trans
      (((s22 (x18 := iblk m c 18 t) ..).2 hr).trans (congrArg arr3 (funext fun _ => funext fun r => ?_))))
    rw [tp_eq]
    exact tX_eq _ _ _ (by omega) _ (fun r => tx_eq m c t r) r

/-- The second result's block at a point. -/
theorem outs23 (t : Fin cfg0.N) : (outs m c t).2.1
    = arr3 fun _ r => H2 (kp m c) (kx m c (sq t)) ⟨512 * (t.val % 8) + r.val, by omega⟩ := by
  by_cases h : t.val % 8 = 0
  · have hc := (carry_A m c t h).symm.trans (carry_eq m c t.val t.isLt)
    have hr := (congrArg View.canon (run_A ..).2.2).symm.trans hc
    refine (outs_A23 m c t h).trans ((congrArg View.canon (run_A ..).2.1).trans
      (((s23 (harg32 := Memref.isWhole_whole _) (xs4 := fun _ => 0) ..).1 hr).trans (congrArg arr3 (funext fun _ => funext fun r => ?_))))
    rw [tp_eq]
    exact congrArg (rms · _) (tX_eq _ _ _ (by omega) _ (fun r => tx_eq m c t r) r)
  · have hc := (carry_B m c t h).symm.trans (carry_eq m c t.val t.isLt)
    have hr := (congrArg View.canon (run_B ..).2.2).symm.trans hc
    refine (outs_B23 m c t h).trans ((congrArg View.canon (run_B ..).2.1).trans
      (((s23 ..).2 hr).trans (congrArg arr3 (funext fun _ => funext fun r => ?_))))
    rw [tp_eq]
    exact congrArg (rms · _) (tX_eq _ _ _ (by omega) _ (fun r => tx_eq m c t r) r)

end Cert.Mix
-- ==== Proof.Mix.Final.lean ====
/- The results' arrays after the launch: the mixer's mathematics at every token. -/
module

public import proofs.«01_k».proof.Proof.Mix.Point
public import proofs.«01_k».proof.Proof.Mix.Body3

@[expose] public section

set_option maxRecDepth 16384

noncomputable section

namespace Cert.Mix

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The grid point whose block holds a row of a sequence. -/
def pt (b : Fin 16) (r : Fin 4096) : Fin cfg0.N := ⟨8 * b.val + r.val / 512, by show _ < 128; omega⟩

/-- Where the first result's block lies at each point. -/
theorem idx22 : ∀ t : Fin cfg0.N, win0_22.index t (0 : Fin 3) = t.val / 8 ∧ win0_22.index t (1 : Fin 3) = t.val % 8 ∧ win0_22.index t (2 : Fin 3) = 0 := by
  decide +kernel

/-- The first result's block is written back after each point. -/
theorem flush22 : ∀ t : Fin grid0.N, win0_22.flush t = true := by decide +kernel

/-- What the first result's array ends with. -/
def G22 : A3 16 4096 1024 := fun j => X1 (kp m c) (kx m c (j (0 : Fin 3))) (j (1 : Fin 3)) (j (2 : Fin 3))

/-- Every index of the first result's array lies in some point's block. -/
theorem cov22 (i : S16x4096x1024.Idx) : ∃ t : Fin cfg0.N, (cfg0.win 22).flush t = true ∧ i ∈ ((cfg0.win 22).blk t).view.set := by
  have h0 : (i (0 : Fin 3)).val < 16 := (i (0 : Fin 3)).isLt
  have h1 : (i (1 : Fin 3)).val < 4096 := (i (1 : Fin 3)).isLt
  have h2 : (i (2 : Fin 3)).val < 1024 := (i (2 : Fin 3)).isLt
  have h := idx22 (pt ⟨(i (0 : Fin 3)).val, h0⟩ ⟨(i (1 : Fin 3)).val, h1⟩)
  have hv : (pt ⟨(i (0 : Fin 3)).val, h0⟩ ⟨(i (1 : Fin 3)).val, h1⟩).val = 8 * (i (0 : Fin 3)).val + (i (1 : Fin 3)).val / 512 := rfl
  generalize pt ⟨(i (0 : Fin 3)).val, h0⟩ ⟨(i (1 : Fin 3)).val, h1⟩ = t at h hv
  rw [hv] at h
  refine ⟨t, flush22 t, ?_⟩
  show i ∈ ((View.whole main_v63_0).slice (win0_22.rect t)).set
  rw [View.set_slice_whole, Rect.mem_set_unit]
  intro a
  fin_cases a
  · show win0_22.index _ (0 : Fin 3) * 1 ≤ (i (0 : Fin 3)).val ∧ (i (0 : Fin 3)).val < win0_22.index _ (0 : Fin 3) * 1 + 1
    omega
  · show win0_22.index _ (1 : Fin 3) * 512 ≤ (i (1 : Fin 3)).val ∧ (i (1 : Fin 3)).val < win0_22.index _ (1 : Fin 3) * 512 + 512
    omega
  · show win0_22.index _ (2 : Fin 3) * 1024 ≤ (i (2 : Fin 3)).val ∧ (i (2 : Fin 3)).val < win0_22.index _ (2 : Fin 3) * 1024 + 1024
    omega

/-- The first result's array after the launch. -/
theorem arr22 : (dats m 0 c).arrAt 22 cfg0.N = G22 m c := by
  refine (dats m 0 c).arrAt_eq_of_cover 22 (G22 m c) (fun t _ => ?_) (cov22)
  show (cfg0.win 22).cut (grid0.coords t) ((dats m 0 c).after 22 t) = ((cfg0.win 22).blk t).view.read (Elt Ideal) (G22 m c)
  rw [aft22, outs22]
  funext y
  have h := idx22 t
  show X1 (kp m c) (kx m c (sq t)) _ _ = X1 (kp m c) (kx m c _) _ _
  have e0 : ((((cfg0.win 22).blk t).view.emb y) (0 : Fin 3)).val = win0_22.index t (0 : Fin 3) * 1 + 1 * (y (0 : Fin 3)).val := rfl
  have e1 : ((((cfg0.win 22).blk t).view.emb y) (1 : Fin 3)).val = win0_22.index t (1 : Fin 3) * 512 + 1 * (y (1 : Fin 3)).val := rfl
  have e2 : ((((cfg0.win 22).blk t).view.emb y) (2 : Fin 3)).val = win0_22.index t (2 : Fin 3) * 1024 + 1 * (y (2 : Fin 3)).val := rfl
  have y0 : (y (0 : Fin 3)).val < 1 := (y (0 : Fin 3)).isLt
  have a0 : sq t = (((cfg0.win 22).blk t).view.emb y) (0 : Fin 3) := Fin.ext (by rw [e0]; simp only [sq]; omega)
  have a1 : (⟨512 * (t.val % 8) + (y (1 : Fin 3)).val, by have : (y (1 : Fin 3)).val < 512 := (y (1 : Fin 3)).isLt; omega⟩ : Fin 4096) = (((cfg0.win 22).blk t).view.emb y) (1 : Fin 3) :=
    Fin.ext (by rw [e1]; simp only; omega)
  have a2 : (⟨(y (2 : Fin 3)).val, (y (2 : Fin 3)).isLt⟩ : Fin 1024) = (((cfg0.win 22).blk t).view.emb y) (2 : Fin 3) :=
    Fin.ext (by rw [e2]; simp only; omega)
  exact (congrArg₂ (fun s n => X1 (kp m c) (kx m c s) _ n) a0 a2).trans (congrArg (fun r => X1 (kp m c) (kx m c _) r _) a1)

/-- Where the second result's block lies at each point. -/
theorem idx23 : ∀ t : Fin cfg0.N, win0_23.index t (0 : Fin 3) = t.val / 8 ∧ win0_23.index t (1 : Fin 3) = t.val % 8 ∧ win0_23.index t (2 : Fin 3) = 0 := by
  decide +kernel

/-- The second result's block is written back after each point. -/
theorem flush23 : ∀ t : Fin grid0.N, win0_23.flush t = true := by decide +kernel

/-- What the second result's array ends with. -/
def G23 : A3 16 4096 1024 := fun j => H2 (kp m c) (kx m c (j (0 : Fin 3))) (j (1 : Fin 3)) (j (2 : Fin 3))

/-- Every index of the second result's array lies in some point's block. -/
theorem cov23 (i : S16x4096x1024.Idx) : ∃ t : Fin cfg0.N, (cfg0.win 23).flush t = true ∧ i ∈ ((cfg0.win 23).blk t).view.set := by
  have h0 : (i (0 : Fin 3)).val < 16 := (i (0 : Fin 3)).isLt
  have h1 : (i (1 : Fin 3)).val < 4096 := (i (1 : Fin 3)).isLt
  have h2 : (i (2 : Fin 3)).val < 1024 := (i (2 : Fin 3)).isLt
  have h := idx23 (pt ⟨(i (0 : Fin 3)).val, h0⟩ ⟨(i (1 : Fin 3)).val, h1⟩)
  have hv : (pt ⟨(i (0 : Fin 3)).val, h0⟩ ⟨(i (1 : Fin 3)).val, h1⟩).val = 8 * (i (0 : Fin 3)).val + (i (1 : Fin 3)).val / 512 := rfl
  generalize pt ⟨(i (0 : Fin 3)).val, h0⟩ ⟨(i (1 : Fin 3)).val, h1⟩ = t at h hv
  rw [hv] at h
  refine ⟨t, flush23 t, ?_⟩
  show i ∈ ((View.whole main_v63_1).slice (win0_23.rect t)).set
  rw [View.set_slice_whole, Rect.mem_set_unit]
  intro a
  fin_cases a
  · show win0_23.index _ (0 : Fin 3) * 1 ≤ (i (0 : Fin 3)).val ∧ (i (0 : Fin 3)).val < win0_23.index _ (0 : Fin 3) * 1 + 1
    omega
  · show win0_23.index _ (1 : Fin 3) * 512 ≤ (i (1 : Fin 3)).val ∧ (i (1 : Fin 3)).val < win0_23.index _ (1 : Fin 3) * 512 + 512
    omega
  · show win0_23.index _ (2 : Fin 3) * 1024 ≤ (i (2 : Fin 3)).val ∧ (i (2 : Fin 3)).val < win0_23.index _ (2 : Fin 3) * 1024 + 1024
    omega

/-- The second result's array after the launch. -/
theorem arr23 : (dats m 0 c).arrAt 23 cfg0.N = G23 m c := by
  refine (dats m 0 c).arrAt_eq_of_cover 23 (G23 m c) (fun t _ => ?_) (cov23)
  show (cfg0.win 23).cut (grid0.coords t) ((dats m 0 c).after 23 t) = ((cfg0.win 23).blk t).view.read (Elt Ideal) (G23 m c)
  rw [aft23, outs23]
  funext y
  have h := idx23 t
  show H2 (kp m c) (kx m c (sq t)) _ _ = H2 (kp m c) (kx m c _) _ _
  have e0 : ((((cfg0.win 23).blk t).view.emb y) (0 : Fin 3)).val = win0_23.index t (0 : Fin 3) * 1 + 1 * (y (0 : Fin 3)).val := rfl
  have e1 : ((((cfg0.win 23).blk t).view.emb y) (1 : Fin 3)).val = win0_23.index t (1 : Fin 3) * 512 + 1 * (y (1 : Fin 3)).val := rfl
  have e2 : ((((cfg0.win 23).blk t).view.emb y) (2 : Fin 3)).val = win0_23.index t (2 : Fin 3) * 1024 + 1 * (y (2 : Fin 3)).val := rfl
  have y0 : (y (0 : Fin 3)).val < 1 := (y (0 : Fin 3)).isLt
  have a0 : sq t = (((cfg0.win 23).blk t).view.emb y) (0 : Fin 3) := Fin.ext (by rw [e0]; simp only [sq]; omega)
  have a1 : (⟨512 * (t.val % 8) + (y (1 : Fin 3)).val, by have : (y (1 : Fin 3)).val < 512 := (y (1 : Fin 3)).isLt; omega⟩ : Fin 4096) = (((cfg0.win 23).blk t).view.emb y) (1 : Fin 3) :=
    Fin.ext (by rw [e1]; simp only; omega)
  have a2 : (⟨(y (2 : Fin 3)).val, (y (2 : Fin 3)).isLt⟩ : Fin 1024) = (((cfg0.win 23).blk t).view.emb y) (2 : Fin 3) :=
    Fin.ext (by rw [e2]; simp only; omega)
  exact (congrArg₂ (fun s n => H2 (kp m c) (kx m c s) _ n) a0 a2).trans (congrArg (fun r => H2 (kp m c) (kx m c _) r _) a1)

/-- The launch ends with both results' arrays at the mixer's mathematics. -/
theorem results : θ_run defs (onTc (τ := τ) (main (F := Ideal))) ⟨m, fun _ => 0, ρ⟩ (fun r => ∀ c : Dev nD,
    r.2.mem ((c.tc : Thread nD τ).loc main_v63_0) = G22 m c ∧ r.2.mem ((c.tc : Thread nD τ).loc main_v63_1) = G23 m c) :=
  (θ_run defs _ _).mono (fun _ h c => ⟨((h c).1 22).trans (arr22 m c), ((h c).1 23).trans (arr23 m c)⟩) (launched m ρ)

end Cert.Mix
-- ==== Proof.Mix.Ref.lean ====
/- The reference's result, read at an index: the mathematics of `Mix/Spec.lean`. -/
module

public import proofs.«01_k».proof.Proof.Mix.Spec
public import proofs.«01_k».proof.Proof.Gen.ReferenceIdeal.Run
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Mix

/-- The reference's weights. -/
abbrev rp (V : Valuation τ sig (Elt Ideal)) : Par :=
  parOf (V (Proc.devRef .tc main_arg1)) (V (Proc.devRef .tc main_arg2)) (V (Proc.devRef .tc main_arg3)) (V (Proc.devRef .tc main_arg4)) (V (Proc.devRef .tc main_arg5))
    (V (Proc.devRef .tc main_arg6)) (V (Proc.devRef .tc main_arg7)) (V (Proc.devRef .tc main_arg8)) (V (Proc.devRef .tc main_arg9)) (V (Proc.devRef .tc main_arg10))
    (V (Proc.devRef .tc main_arg11)) (V (Proc.devRef .tc main_arg12)) (V (Proc.devRef .tc main_arg13)) (V (Proc.devRef .tc main_arg14)) (V (Proc.devRef .tc main_arg15))
    (V (Proc.devRef .tc main_arg16)) (V (Proc.devRef .tc main_arg17)) (V (Proc.devRef .tc main_arg18))

/-- The reference's rows. -/
abbrev rx (V : Valuation τ sig (Elt Ideal)) : Fin 16 → Fin 4096 → Row := rowsOf (V (Proc.devRef .tc main_arg0))

variable (V : Valuation τ sig (Elt Ideal)) (b : Fin 16) (t : Fin 4096)

/-- The input projection. -/
theorem r19 (n : Fin 6144) : res_main_v19 V (ix3 b t n) = proj (rp V) (rx V b t) n := by
  unfold res_main_v19
  clean_types
  pointwise
  rfl

/-- The integer zero as a float is zero. -/
theorem sitofp_zero : FloatOps.sitofp (F := Ideal) .f32 (0#32 : BitVec 32) = 0 := by
  show (((0#32 : BitVec 32).toInt : ℝ) : EReal) = 0
  simp

/-- The padded input of the convolution. -/
theorem r38 (q : Fin 4126) (ch : Fin 1024) : res_main_v38 V (ix3 b q ch) = padRow (rp V) (rx V b) q.val ch := by
  unfold res_main_v38 res_main_v20
  clean_types
  pointwise [r19]
  unfold padRow glu
  by_cases h : 30 ≤ q.val ∧ q.val - 30 < 4096
  · rw [dif_pos h, dif_neg (by omega)]
    have e0 : (⟨ch.val, by omega⟩ : Fin 6144) = at6 0 ch := Fin.ext (by simp [at6])
    have e1 : (⟨1024 + ch.val, by omega⟩ : Fin 6144) = at6 1 ch := Fin.ext (by simp [at6])
    rw [e0, e1]
    rfl
  · rw [dif_neg h, dif_pos (by omega)]
    exact sitofp_zero

/-- The convolution. -/
theorem r257 (ch : Fin 1024) : res_main_v257 V (ix3 b t ch) = conv (rp V) (tap (rp V) (rx V b) t) ch := by
  unfold res_main_v257 res_main_v191 res_main_v114 res_main_v23
  clean_types
  pointwise [r38]
  rw [conv, ← chain31', show tap (rp V) (rx V b) t 0 = padRow (rp V) (rx V b) t.val by unfold tap; congr 1; exact Nat.zero_add _]
  simp only [mul_comm (padRow _ _ _ _)]
  rfl

/-- The convolution's layer norm. -/
theorem r281 (ch : Fin 1024) : res_main_v281 V (ix3 b t ch)
    = ln (conv (rp V) (tap (rp V) (rx V b) t)) (rp V).clg (rp V).clb ch := by
  unfold res_main_v281 res_main_v263 res_main_v261
  clean_types
  pointwise [r257]
  rfl

/-- The activated middle third of the projection, by halves. -/
theorem r299 (o : Fin 2) (ch : Fin 1024) : res_main_v299 V (ix3 b t ⟨o.val * 1024 + ch.val, by omega⟩)
    = gelu (proj (rp V) (rx V b t) ⟨2048 + (o.val * 1024 + ch.val), by omega⟩) := by
  unfold res_main_v299 res_main_v21
  clean_types
  pointwise [r19]
  exact gelu_eq _

/-- The gates: the last third of the projection through the logistic function, by halves. -/
theorem r356 (o : Fin 2) (ch : Fin 1024) : res_main_v356 V (ix3 b t ⟨o.val * 1024 + ch.val, by omega⟩)
    = Ideal.logistic (proj (rp V) (rx V b t) ⟨4096 + (o.val * 1024 + ch.val), by omega⟩) := by
  unfold res_main_v356
  clean_types
  pointwise [r19]
  rfl

/-- The first branch's gate. -/
theorem r356a (ch : Fin 1024) : res_main_v356 V (ix3 b t ⟨ch.val, by omega⟩)
    = Ideal.logistic (proj (rp V) (rx V b t) (at6 4 ch)) := by
  refine Eq.trans (congrArg _ (congrArg _ (Fin.ext ?_))) ((r356 V b t 0 ch).trans (congrArg _ (congrArg _ (Fin.ext ?_)))) <;> simp [at6]

/-- The second branch's gate. -/
theorem r356b (ch : Fin 1024) : res_main_v356 V (ix3 b t ⟨1024 + ch.val, by omega⟩)
    = Ideal.logistic (proj (rp V) (rx V b t) (at6 5 ch)) := by
  refine Eq.trans (congrArg _ (congrArg _ (Fin.ext ?_))) ((r356 V b t 1 ch).trans (congrArg _ (congrArg _ (Fin.ext ?_)))) <;> simp [at6]
  omega

/-- The spatial gating's first half. -/
theorem r299a (ch : Fin 1024) : res_main_v299 V (ix3 b t ⟨ch.val, by omega⟩) = gelu (proj (rp V) (rx V b t) (at6 2 ch)) := by
  refine Eq.trans (congrArg _ (congrArg _ (Fin.ext ?_))) ((r299 V b t 0 ch).trans (congrArg _ (congrArg _ (Fin.ext ?_)))) <;> simp [at6]

/-- The spatial gating's second half, before its norm. -/
theorem r301 (ch : Fin 1024) : res_main_v301 V (ix3 b t ch) = gelu (proj (rp V) (rx V b t) (at6 3 ch)) := by
  unfold res_main_v301
  clean_types
  pointwise
  exact (r299 V b t 1 ch).trans (congrArg _ (congrArg _ (Fin.ext (by simp only [at6]; omega))))

/-- The chunk of 64 that a place in the block lies in, as the reference's integers compute it. -/
theorem r328 (i : Fin 128) : res_main_v328 V (ix1 i) = BitVec.ofNat 32 (i.val / 64) := by
  unfold res_main_v328 res_main_call2_v2 res_main_v327 res_main_call2_v0
  clean_types
  pointwise
  revert i
  decide +kernel

/-- The mask's factor: one where the second token's chunk is no later than the first's, and zero elsewhere. -/
theorem mask_eq (q k : Fin 128) : FloatOps.uitofp (F := Ideal) .f32
    (IntOp.cmpi .sge (BitVec.ofNat 32 (q.val / 64)) (BitVec.ofNat 32 (k.val / 64))) = if k.val / 64 ≤ q.val / 64 then 1 else 0 := by
  have h : ∀ q k : Fin 128, IntOp.cmpi .sge (BitVec.ofNat 32 (q.val / 64)) (BitVec.ofNat 32 (k.val / 64))
      = if k.val / 64 ≤ q.val / 64 then 1#1 else 0#1 := by decide +kernel
  rw [h]
  split
  · show (((1#1 : BitVec 1).toNat : ℝ) : EReal) = 1
    simp
  · show (((0#1 : BitVec 1).toNat : ℝ) : EReal) = 0
    simp

set_option maxHeartbeats 1600000 in
/-- The first result: the residual stream after the mixer. -/
theorem r368 (n : Fin 1024) : res_main_v368 V (ix3 b t n) = X1 (rp V) (rx V b) t n := by
  unfold res_main_v368 res_main_v307 res_main_v305
  clean_types
  pointwise [r281, r301, r328, r299a, r356a, r356b]
  have hm : ∀ (q k : Fin 128) (w : EReal), w * FloatOps.uitofp (F := Ideal) .f32
    (IntOp.cmpi .sge (BitVec.ofNat 32 (q.val / 64)) (BitVec.ofNat 32 (k.val / 64))) = if k.val / 64 ≤ q.val / 64 then w else 0 := by
    intro q k w
    rw [mask_eq]
    split
    · exact mul_one w
    · exact mul_zero w
  have hm' := fun k w => hm (pos t) k w
  simp only [pos] at hm'
  simp only [hm']
  refine Eq.trans ?_ (X1_eq (rp V) (rx V b) t n).symm
  exact congrArg (· + (rp V).bout n) (congrArg (rx V b t n + ·) (Finset.sum_congr rfl fun ch _ =>
    congrArg (· * (rp V).wout ch n) (congrArg (Ideal.logistic (proj (rp V) (rx V b t) (at6 4 ch)) * ya (rp V) (tap (rp V) (rx V b) t) ch + ·)
    (congrArg (Ideal.logistic (proj (rp V) (rx V b t) (at6 5 ch)) * ·) (congrArg (· + (rp V).bso ch) (Finset.sum_congr rfl fun c _ =>
    congrArg (· * (rp V).wso c ch) (congrArg (uu (rp V) (rx V b t) c * ·) (congrArg (· + (rp V).bsg (hd c) (pos t)) (Finset.sum_congr rfl
    fun k _ => mul_comm _ _)))))))))

/-- The second result: its norm. -/
theorem r383 (n : Fin 1024) : (truncf .bf16 (mulf (mulf (res_main_v368 V) (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf (res_main_v368 V) (res_main_v368 V)) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast _ (V (Proc.devRef .tc main_arg18)) shapeCasts_S1x1024_S1024)))) bitsLt_bf16_f32 : FVec Ideal S16x4096x1024 .bf16) (ix3 b t n)
    = H2 (rp V) (rx V b) t n := by
  clean_types
  pointwise [r368]
  rfl

end Cert.ReferenceIdeal.Value
-- ==== Proof.Mix.Alg.lean ====
/- The kernel and the reference agree: both results of both programs are the mixer's mathematics of the arguments. -/
module

public import proofs.«01_k».proof.Proof.Mix.Final
public import proofs.«01_k».proof.Proof.Mix.Ref
public import proofs.«01_k».proof.Defs

@[expose] public section

set_option maxRecDepth 16384

noncomputable section

namespace Cert.Mix

open Idealize.ShloMosaic Idealize.ShloMosaic.TcCoe Idealize.SL.Sem Idealize.ShloMosaic.StableHlo
open Cert.ReferenceIdeal.Value (rp rx)

/-- An index of a three-dimensional array by its coordinates. -/
theorem eta3 (j : (⟨3, ![16, 4096, 1024]⟩ : Shape).Idx) : j = ix3 (j (0 : Fin 3)) (j (1 : Fin 3)) (j (2 : Fin 3)) := by
  funext a
  fin_cases a <;> rfl

/-- The reference's frame: its arguments end as they were launched, and it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)

set_option maxHeartbeats 1000000 in
/-- The two programs' results agree, on arguments that agree. -/
theorem algebraic : Cert.algebraic_KernelIdeal_ReferenceIdeal (hKernelIdeal := Cert.KernelIdeal.Gen.facts)
    (hReferenceIdeal := Cert.ReferenceIdeal.Gen.facts) := by
  intro m ρ m' ρ' _ hag
  have hp : ∀ c, rp (launchContents m' c) = kp m c := fun c => by
    obtain ⟨_, h1, h2, h3, h4, h5, h6, h7, h8, h9, h10, h11, h12, h13, h14, h15, h16, h17, h18, _⟩ := hag c
    unfold kp
    rw [← h1, ← h2, ← h3, ← h4, ← h5, ← h6, ← h7, ← h8, ← h9, ← h10, ← h11, ← h12, ← h13, ← h14, ← h15, ← h16, ← h17, ← h18]
  have hx : ∀ c, rx (launchContents m' c) = kx m c := fun c => by
    unfold kx
    rw [← (hag c).1]
  refine ⟨fun c => G22 m c, fun c => G23 m c, ?_, ?_⟩
  · exact (θ_run Cert.KernelIdeal.defs _ _).mono (fun r h c => ⟨(h.1 c).1, (h.1 c).2, h.2.1 c⟩)
      (θ_run_and (results m ρ) (frame m ρ))
  · refine (θ_run Cert.ReferenceIdeal.defs _ _).mono (fun r h c => ⟨(h c).1.trans ?_, (h c).2.1.trans ?_, (h c).2.2⟩)
      (Cert.ReferenceIdeal.Value.run m' ρ')
    · funext j
      rw [eta3 j]
      refine (Cert.ReferenceIdeal.Value.r368 (launchContents m' c) _ _ _).trans ?_
      rw [hp, hx]
      rfl
    · funext j
      rw [eta3 j]
      refine (Cert.ReferenceIdeal.Value.r383 (launchContents m' c) _ _ _).trans ?_
      rw [hp, hx]
      rfl

end Cert.Mix
-- ==== Proof.lean ====
/- The proof of the certificate's claim: the kernel's three frames, the idealization's preservation, and the agreement of the
   idealized kernel with the idealized reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Mix.FrameP
public import proofs.«01_k».proof.Proof.Mix.Alg
public import Idealize.ShloMosaic.Adequacy
public import Idealize.ShloMosaic.Init

@[expose] public section

noncomputable section

namespace Cert.Proof

open Idealize.ShloMosaic Idealize.SL.Sem

/-- The certificate's claim. -/
theorem claim : Cert.Claim := ⟨Cert.Kernel.Gen.facts, Cert.KernelIdeal.Gen.facts, Cert.ReferenceIdeal.Gen.facts,
  Cert.Mix.frame_kernel, fun m ρ _ => Cert.Mix.frame m ρ, Cert.Mix.frame_reference, trivial, Cert.Mix.algebraic⟩

end Cert.Proof

end
